-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x10000x128 : Shape := ⟨3, ![4, 10000, 128]⟩
abbrev S160000x2 : Shape := ⟨2, ![160000, 2]⟩
abbrev S_ : Shape := ⟨0, ![]⟩

class Facts : Prop where
  bcast_S_S160000x2 : S_.BroadcastsInDim S160000x2 (![] : Fin 0 → Fin S160000x2.rank)

variable [Facts]

def fn {F : FTy → Type} [FloatOps F] (main_arg0 : FVec F S4x10000x128 .f32) (main_arg1 : IVec S160000x2 32) : IVec S160000x2 1 :=
  let main_c : IVec S_ 32 := constantI S_ 32 0#32
  let main_v0 : IVec S160000x2 32 := broadcastInDim S160000x2 ![] bcast_S_S160000x2 main_c
  let main_v1 : IVec S160000x2 1 := cmpi .sge main_arg1 main_v0
  let main_c_0 : IVec S_ 32 := constantI S_ 32 10000#32
  let main_v2 : IVec S160000x2 32 := broadcastInDim S160000x2 ![] bcast_S_S160000x2 main_c_0
  let main_v3 : IVec S160000x2 1 := cmpi .slt main_arg1 main_v2
  let main_v4 : IVec S160000x2 1 := andi main_v1 main_v3
  main_v4
-- ==== Kernel.lean ====
abbrev S4x10000x128 : Shape := ⟨3, ![4, 10000, 128]⟩
abbrev S160000x2 : Shape := ⟨2, ![160000, 2]⟩
abbrev S40000x128 : Shape := ⟨2, ![40000, 128]⟩
abbrev S160000x1 : Shape := ⟨2, ![160000, 1]⟩
abbrev S160000 : Shape := ⟨1, ![160000]⟩
abbrev S4x170000x128 : Shape := ⟨3, ![4, 170000, 128]⟩
abbrev S128 : Shape := ⟨1, ![128]⟩
abbrev S128x128 : Shape := ⟨2, ![128, 128]⟩
abbrev S80x128 : Shape := ⟨2, ![80, 128]⟩
abbrev S_ : Shape := ⟨0, ![]⟩
abbrev S1x80x128 : Shape := ⟨3, ![1, 80, 128]⟩
abbrev S16 : Shape := ⟨1, ![16]⟩
abbrev S1x16 : Shape := ⟨2, ![1, 16]⟩
abbrev S1x128x128 : Shape := ⟨3, ![1, 128, 128]⟩

abbrev nBuf : Table → Nat
  | .hbm => 8
  | .local .scVector .vmem => 8
  | _ => 0

abbrev bufTy : (tb : Table) → Fin (nBuf tb) → BufTy
  | .hbm, ⟨0, _⟩ => ⟨S4x10000x128, .f32⟩
  | .hbm, ⟨1, _⟩ => ⟨S160000x2, .i32⟩
  | .hbm, ⟨2, _⟩ => ⟨S40000x128, .f32⟩
  | .hbm, ⟨3, _⟩ => ⟨S160000x1, .i32⟩
  | .hbm, ⟨4, _⟩ => ⟨S160000, .i32⟩
  | .hbm, ⟨5, _⟩ => ⟨S160000x1, .i32⟩
  | .hbm, ⟨6, _⟩ => ⟨S160000, .i32⟩
  | .hbm, ⟨7, _⟩ => ⟨S4x170000x128, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S80x128, .f32⟩
  | _, _ => ⟨S4x10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_v2_scv : Ref sig .scVector := ⟨.hbm, 4, rfl⟩
abbrev main_v4_scv : Ref sig .scVector := ⟨.hbm, 6, rfl⟩
abbrev main_v5_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_3 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v2 : BitVec 1 := Scalar.cmpi .slt v1 c20_i32
  let c1_i32 : BitVec 32 := 1#32
  let c0_i32 : BitVec 32 := 0#32
  let v3 : BitVec 32 := Scalar.select v2 c1_i32 c0_i32
  let v4 : BitVec 32 := Scalar.addi c15_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_5 : BitVec 32 := 1#32
  ⟨c0_i32_3, v12, c1_i32_5⟩
def k0_off1 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_0 : BitVec 32 := 15#32
  let v5 : BitVec 32 := Scalar.muli v1 c15_i32_0
  let c20_i32_1 : BitVec 32 := 20#32
  let v6 : BitVec 32 := Scalar.minsi v1 c20_i32_1
  let v7 : BitVec 32 := Scalar.addi v5 v6
  let c0_i32_3 : BitVec 32 := 0#32
  let c1_i32_5 : BitVec 32 := 1#32
  let arg16 : BitVec 32 := Scf.iv c0_i32_3 c1_i32_5 k0_t1
  let v24 : BitVec 32 := Scalar.addi v7 arg16
  let c0_i32_17 : BitVec 32 := 0#32
  let v26 : BitVec 1 := Scalar.cmpi .sgt v24 c0_i32_17
  let v27 : BitVec 32 := Scalar.extui v26
  let c0_i32_18 : BitVec 32 := 0#32
  let v28 : BitVec 1 := Scalar.cmpi .slt v24 c0_i32_18
  let v29 : BitVec 32 := Scalar.extui v28
  let v30 : BitVec 32 := Scalar.subi v27 v29
  let c125_i32 : BitVec 32 := 125#32
  let c0_i32_19 : BitVec 32 := 0#32
  let v31 : BitVec 1 := Scalar.cmpi .sgt c125_i32 c0_i32_19
  let v32 : BitVec 32 := Scalar.extui v31
  let c0_i32_20 : BitVec 32 := 0#32
  let v33 : BitVec 1 := Scalar.cmpi .slt c125_i32 c0_i32_20
  let v34 : BitVec 32 := Scalar.extui v33
  let v35 : BitVec 32 := Scalar.subi v32 v34
  let v36 : BitVec 1 := Scalar.cmpi .ne v30 v35
  let v37 : BitVec 32 := Scalar.remsi v24 c125_i32
  let c0_i32_21 : BitVec 32 := 0#32
  let v38 : BitVec 1 := Scalar.cmpi .ne v37 c0_i32_21
  let v39 : BitVec 1 := Scalar.andi v36 v38
  let v25 : BitVec 32 := Scalar.divsi v24 c125_i32
  let c1_i32_22 : BitVec 32 := 1#32
  let v40 : BitVec 32 := Scalar.subi v25 c1_i32_22
  let v41 : BitVec 32 := Scalar.select v39 v40 v25
  let c10000_i32 : BitVec 32 := 10000#32
  let v53 : BitVec 32 := Scalar.muli v41 c10000_i32
  let c125_i32_23 : BitVec 32 := 125#32
  let c0_i32_24 : BitVec 32 := 0#32
  let v42 : BitVec 1 := Scalar.cmpi .eq c125_i32_23 c0_i32_24
  let c1_i32_25 : BitVec 32 := 1#32
  let v43 : BitVec 32 := Scalar.select v42 c1_i32_25 c125_i32_23
  let v44 : BitVec 32 := Scalar.remsi v24 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c80_i32 : BitVec 32 := 80#32
  let v52 : BitVec 32 := Scalar.muli v51 c80_i32
  let v54 : BitVec 32 := Scalar.addi v53 v52
  let c0_i32_29_r0 : BitVec 32 := 0#32
  ![v54.toNat, 0]
def k0_off2 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_0 : BitVec 32 := 15#32
  let v5 : BitVec 32 := Scalar.muli v1 c15_i32_0
  let c20_i32_1 : BitVec 32 := 20#32
  let v6 : BitVec 32 := Scalar.minsi v1 c20_i32_1
  let v7 : BitVec 32 := Scalar.addi v5 v6
  let c0_i32_3 : BitVec 32 := 0#32
  let c1_i32_5 : BitVec 32 := 1#32
  let arg16 : BitVec 32 := Scf.iv c0_i32_3 c1_i32_5 k0_t1
  let v24 : BitVec 32 := Scalar.addi v7 arg16
  let c0_i32_17 : BitVec 32 := 0#32
  let v26 : BitVec 1 := Scalar.cmpi .sgt v24 c0_i32_17
  let v27 : BitVec 32 := Scalar.extui v26
  let c0_i32_18 : BitVec 32 := 0#32
  let v28 : BitVec 1 := Scalar.cmpi .slt v24 c0_i32_18
  let v29 : BitVec 32 := Scalar.extui v28
  let v30 : BitVec 32 := Scalar.subi v27 v29
  let c125_i32 : BitVec 32 := 125#32
  let c0_i32_19 : BitVec 32 := 0#32
  let v31 : BitVec 1 := Scalar.cmpi .sgt c125_i32 c0_i32_19
  let v32 : BitVec 32 := Scalar.extui v31
  let c0_i32_20 : BitVec 32 := 0#32
  let v33 : BitVec 1 := Scalar.cmpi .slt c125_i32 c0_i32_20
  let v34 : BitVec 32 := Scalar.extui v33
  let v35 : BitVec 32 := Scalar.subi v32 v34
  let v36 : BitVec 1 := Scalar.cmpi .ne v30 v35
  let v37 : BitVec 32 := Scalar.remsi v24 c125_i32
  let c0_i32_21 : BitVec 32 := 0#32
  let v38 : BitVec 1 := Scalar.cmpi .ne v37 c0_i32_21
  let v39 : BitVec 1 := Scalar.andi v36 v38
  let v25 : BitVec 32 := Scalar.divsi v24 c125_i32
  let c1_i32_22 : BitVec 32 := 1#32
  let v40 : BitVec 32 := Scalar.subi v25 c1_i32_22
  let v41 : BitVec 32 := Scalar.select v39 v40 v25
  let c125_i32_23 : BitVec 32 := 125#32
  let c0_i32_24 : BitVec 32 := 0#32
  let v42 : BitVec 1 := Scalar.cmpi .eq c125_i32_23 c0_i32_24
  let c1_i32_25 : BitVec 32 := 1#32
  let v43 : BitVec 32 := Scalar.select v42 c1_i32_25 c125_i32_23
  let v44 : BitVec 32 := Scalar.remsi v24 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c80_i32 : BitVec 32 := 80#32
  let v52 : BitVec 32 := Scalar.muli v51 c80_i32
  let c0_i32_29_r1 : BitVec 32 := 0#32
  ![v41.toNat, v52.toNat, 0]
@[reducible] def k0_t2_loop (i : grid0.Coords) : Scf.Loop 32 :=
  let c0_i32_3 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v2 : BitVec 1 := Scalar.cmpi .slt v1 c20_i32
  let c1_i32 : BitVec 32 := 1#32
  let c0_i32 : BitVec 32 := 0#32
  let v3 : BitVec 32 := Scalar.select v2 c1_i32 c0_i32
  let v4 : BitVec 32 := Scalar.addi c15_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let v9 : BitVec 32 := Scalar.addi c0_i32_3 v8
  let c1_i32_6 : BitVec 32 := 1#32
  ⟨v12, v9, c1_i32_6⟩
def k0_off3 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_0 : BitVec 32 := 15#32
  let v5 : BitVec 32 := Scalar.muli v1 c15_i32_0
  let c20_i32_1 : BitVec 32 := 20#32
  let v6 : BitVec 32 := Scalar.minsi v1 c20_i32_1
  let v7 : BitVec 32 := Scalar.addi v5 v6
  let c0_i32_3 : BitVec 32 := 0#32
  let c15_i32 : BitVec 32 := 15#32
  let c20_i32 : BitVec 32 := 20#32
  let v2 : BitVec 1 := Scalar.cmpi .slt v1 c20_i32
  let c1_i32 : BitVec 32 := 1#32
  let c0_i32 : BitVec 32 := 0#32
  let v3 : BitVec 32 := Scalar.select v2 c1_i32 c0_i32
  let v4 : BitVec 32 := Scalar.addi c15_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg16 : BitVec 32 := Scf.iv v12 c1_i32_6 k0_t2
  let v24 : BitVec 32 := Scalar.addi v7 arg16
  let c0_i32_17 : BitVec 32 := 0#32
  let v26 : BitVec 1 := Scalar.cmpi .sgt v24 c0_i32_17
  let v27 : BitVec 32 := Scalar.extui v26
  let c0_i32_18 : BitVec 32 := 0#32
  let v28 : BitVec 1 := Scalar.cmpi .slt v24 c0_i32_18
  let v29 : BitVec 32 := Scalar.extui v28
  let v30 : BitVec 32 := Scalar.subi v27 v29
  let c125_i32 : BitVec 32 := 125#32
  let c0_i32_19 : BitVec 32 := 0#32
  let v31 : BitVec 1 := Scalar.cmpi .sgt c125_i32 c0_i32_19
  let v32 : BitVec 32 := Scalar.extui v31
  let c0_i32_20 : BitVec 32 := 0#32
  let v33 : BitVec 1 := Scalar.cmpi .slt c125_i32 c0_i32_20
  let v34 : BitVec 32 := Scalar.extui v33
  let v35 : BitVec 32 := Scalar.subi v32 v34
  let v36 : BitVec 1 := Scalar.cmpi .ne v30 v35
  let v37 : BitVec 32 := Scalar.remsi v24 c125_i32
  let c0_i32_21 : BitVec 32 := 0#32
  let v38 : BitVec 1 := Scalar.cmpi .ne v37 c0_i32_21
  let v39 : BitVec 1 := Scalar.andi v36 v38
  let v25 : BitVec 32 := Scalar.divsi v24 c125_i32
  let c1_i32_22 : BitVec 32 := 1#32
  let v40 : BitVec 32 := Scalar.subi v25 c1_i32_22
  let v41 : BitVec 32 := Scalar.select v39 v40 v25
  let c10000_i32 : BitVec 32 := 10000#32
  let v53 : BitVec 32 := Scalar.muli v41 c10000_i32
  let c125_i32_23 : BitVec 32 := 125#32
  let c0_i32_24 : BitVec 32 := 0#32
  let v42 : BitVec 1 := Scalar.cmpi .eq c125_i32_23 c0_i32_24
  let c1_i32_25 : BitVec 32 := 1#32
  let v43 : BitVec 32 := Scalar.select v42 c1_i32_25 c125_i32_23
  let v44 : BitVec 32 := Scalar.remsi v24 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c80_i32 : BitVec 32 := 80#32
  let v52 : BitVec 32 := Scalar.muli v51 c80_i32
  let v54 : BitVec 32 := Scalar.addi v53 v52
  let c0_i32_29_r2 : BitVec 32 := 0#32
  ![v54.toNat, 0]
def k0_off4 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_0 : BitVec 32 := 15#32
  let v5 : BitVec 32 := Scalar.muli v1 c15_i32_0
  let c20_i32_1 : BitVec 32 := 20#32
  let v6 : BitVec 32 := Scalar.minsi v1 c20_i32_1
  let v7 : BitVec 32 := Scalar.addi v5 v6
  let c0_i32_3 : BitVec 32 := 0#32
  let c15_i32 : BitVec 32 := 15#32
  let c20_i32 : BitVec 32 := 20#32
  let v2 : BitVec 1 := Scalar.cmpi .slt v1 c20_i32
  let c1_i32 : BitVec 32 := 1#32
  let c0_i32 : BitVec 32 := 0#32
  let v3 : BitVec 32 := Scalar.select v2 c1_i32 c0_i32
  let v4 : BitVec 32 := Scalar.addi c15_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg16 : BitVec 32 := Scf.iv v12 c1_i32_6 k0_t2
  let v24 : BitVec 32 := Scalar.addi v7 arg16
  let c0_i32_17 : BitVec 32 := 0#32
  let v26 : BitVec 1 := Scalar.cmpi .sgt v24 c0_i32_17
  let v27 : BitVec 32 := Scalar.extui v26
  let c0_i32_18 : BitVec 32 := 0#32
  let v28 : BitVec 1 := Scalar.cmpi .slt v24 c0_i32_18
  let v29 : BitVec 32 := Scalar.extui v28
  let v30 : BitVec 32 := Scalar.subi v27 v29
  let c125_i32 : BitVec 32 := 125#32
  let c0_i32_19 : BitVec 32 := 0#32
  let v31 : BitVec 1 := Scalar.cmpi .sgt c125_i32 c0_i32_19
  let v32 : BitVec 32 := Scalar.extui v31
  let c0_i32_20 : BitVec 32 := 0#32
  let v33 : BitVec 1 := Scalar.cmpi .slt c125_i32 c0_i32_20
  let v34 : BitVec 32 := Scalar.extui v33
  let v35 : BitVec 32 := Scalar.subi v32 v34
  let v36 : BitVec 1 := Scalar.cmpi .ne v30 v35
  let v37 : BitVec 32 := Scalar.remsi v24 c125_i32
  let c0_i32_21 : BitVec 32 := 0#32
  let v38 : BitVec 1 := Scalar.cmpi .ne v37 c0_i32_21
  let v39 : BitVec 1 := Scalar.andi v36 v38
  let v25 : BitVec 32 := Scalar.divsi v24 c125_i32
  let c1_i32_22 : BitVec 32 := 1#32
  let v40 : BitVec 32 := Scalar.subi v25 c1_i32_22
  let v41 : BitVec 32 := Scalar.select v39 v40 v25
  let c125_i32_23 : BitVec 32 := 125#32
  let c0_i32_24 : BitVec 32 := 0#32
  let v42 : BitVec 1 := Scalar.cmpi .eq c125_i32_23 c0_i32_24
  let c1_i32_25 : BitVec 32 := 1#32
  let v43 : BitVec 32 := Scalar.select v42 c1_i32_25 c125_i32_23
  let v44 : BitVec 32 := Scalar.remsi v24 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c80_i32 : BitVec 32 := 80#32
  let v52 : BitVec 32 := Scalar.muli v51 c80_i32
  let c0_i32_29_r3 : BitVec 32 := 0#32
  ![v41.toNat, v52.toNat, 0]
@[reducible] def k0_t3_loop (i : grid0.Coords) : Scf.Loop 32 :=
  let c0_i32_13 : BitVec 32 := 0#32
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v13 : BitVec 1 := Scalar.cmpi .slt v1 c2_i32_7
  let c1_i32_8 : BitVec 32 := 1#32
  let c0_i32_9 : BitVec 32 := 0#32
  let v14 : BitVec 32 := Scalar.select v13 c1_i32_8 c0_i32_9
  let v15 : BitVec 32 := Scalar.addi c39_i32 v14
  let v19 : BitVec 32 := Scalar.subi v15 c0_i32_13
  let c1_i32_14 : BitVec 32 := 1#32
  let v21 : BitVec 32 := Scalar.divsi v19 c1_i32_14
  let v22 : BitVec 32 := Scalar.muli v21 c1_i32_14
  let v23 : BitVec 32 := Scalar.addi c0_i32_13 v22
  let c1_i32_15 : BitVec 32 := 1#32
  ⟨c0_i32_13, v23, c1_i32_15⟩
def k0_off5 (i : grid0.Coords) (k0_t3 : Fin (k0_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c1_i32_15 : BitVec 32 := 1#32
  let arg16 : BitVec 32 := Scf.iv c0_i32_13 c1_i32_15 k0_t3
  let v24 : BitVec 32 := Scalar.addi v18 arg16
  let c128_i32 : BitVec 32 := 128#32
  let v25 : BitVec 32 := Scalar.muli v24 c128_i32
  ![v25.toNat]
@[reducible] def k0_t4_loop : Scf.Loop 32 :=
  let c0_i32_66 : BitVec 32 := 0#32
  let c128_i32_67 : BitVec 32 := 128#32
  let v142 : BitVec 32 := Scalar.addi c0_i32_66 c128_i32_67
  let c1_i32_68 : BitVec 32 := 1#32
  ⟨c0_i32_66, v142, c1_i32_68⟩
def k0_off6 (k0_t4 : Fin k0_t4_loop.trips) : Fin 2 → Nat :=
  let c0_i32_66 : BitVec 32 := 0#32
  let c1_i32_68 : BitVec 32 := 1#32
  let arg17 : BitVec 32 := Scf.iv c0_i32_66 c1_i32_68 k0_t4
  let v498 : Index := Scalar.indexCast arg17
  let c0_257 : Index := 0#32
  ![v498.toNat, 0]
def k0_off7 (k0_t4 : Fin k0_t4_loop.trips) : Fin 2 → Nat :=
  let c0_i32_66 : BitVec 32 := 0#32
  let c1_i32_68 : BitVec 32 := 1#32
  let arg17 : BitVec 32 := Scf.iv c0_i32_66 c1_i32_68 k0_t4
  let v511 : Index := Scalar.indexCast arg17
  let c16_260 : Index := 16#32
  ![v511.toNat, 16]
def k0_off8 (k0_t4 : Fin k0_t4_loop.trips) : Fin 2 → Nat :=
  let c0_i32_66 : BitVec 32 := 0#32
  let c1_i32_68 : BitVec 32 := 1#32
  let arg17 : BitVec 32 := Scf.iv c0_i32_66 c1_i32_68 k0_t4
  let v524 : Index := Scalar.indexCast arg17
  let c32_264 : Index := 32#32
  ![v524.toNat, 32]
def k0_off9 (k0_t4 : Fin k0_t4_loop.trips) : Fin 2 → Nat :=
  let c0_i32_66 : BitVec 32 := 0#32
  let c1_i32_68 : BitVec 32 := 1#32
  let arg17 : BitVec 32 := Scf.iv c0_i32_66 c1_i32_68 k0_t4
  let v537 : Index := Scalar.indexCast arg17
  let c48_268 : Index := 48#32
  ![v537.toNat, 48]
def k0_off10 (k0_t4 : Fin k0_t4_loop.trips) : Fin 2 → Nat :=
  let c0_i32_66 : BitVec 32 := 0#32
  let c1_i32_68 : BitVec 32 := 1#32
  let arg17 : BitVec 32 := Scf.iv c0_i32_66 c1_i32_68 k0_t4
  let v550 : Index := Scalar.indexCast arg17
  let c64_272 : Index := 64#32
  ![v550.toNat, 64]
def k0_off11 (k0_t4 : Fin k0_t4_loop.trips) : Fin 2 → Nat :=
  let c0_i32_66 : BitVec 32 := 0#32
  let c1_i32_68 : BitVec 32 := 1#32
  let arg17 : BitVec 32 := Scf.iv c0_i32_66 c1_i32_68 k0_t4
  let v563 : Index := Scalar.indexCast arg17
  let c80_276 : Index := 80#32
  ![v563.toNat, 80]
def k0_off12 (k0_t4 : Fin k0_t4_loop.trips) : Fin 2 → Nat :=
  let c0_i32_66 : BitVec 32 := 0#32
  let c1_i32_68 : BitVec 32 := 1#32
  let arg17 : BitVec 32 := Scf.iv c0_i32_66 c1_i32_68 k0_t4
  let v576 : Index := Scalar.indexCast arg17
  let c96_280 : Index := 96#32
  ![v576.toNat, 96]
def k0_off13 (k0_t4 : Fin k0_t4_loop.trips) : Fin 2 → Nat :=
  let c0_i32_66 : BitVec 32 := 0#32
  let c1_i32_68 : BitVec 32 := 1#32
  let arg17 : BitVec 32 := Scf.iv c0_i32_66 c1_i32_68 k0_t4
  let v589 : Index := Scalar.indexCast arg17
  let c112_284 : Index := 112#32
  ![v589.toNat, 112]
def k0_off14 (i : grid0.Coords) (k0_t3 : Fin (k0_t3_loop i).trips) : Fin 3 → Nat :=
  let c0_i32_70 : BitVec 32 := 0#32
  let c10000_i32 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c1_i32_15 : BitVec 32 := 1#32
  let arg16 : BitVec 32 := Scf.iv c0_i32_13 c1_i32_15 k0_t3
  let v24 : BitVec 32 := Scalar.addi v18 arg16
  let c128_i32 : BitVec 32 := 128#32
  let v25 : BitVec 32 := Scalar.muli v24 c128_i32
  let v143 : BitVec 32 := Scalar.addi c10000_i32 v25
  let c0_i32_257_r6 : BitVec 32 := 0#32
  ![0, v143.toNat, 0]
@[reducible] def k0_t5_loop : Scf.Loop 32 :=
  let c0_i32_128 : BitVec 32 := 0#32
  let c128_i32_129 : BitVec 32 := 128#32
  let v260 : BitVec 32 := Scalar.addi c0_i32_128 c128_i32_129
  let c1_i32_130 : BitVec 32 := 1#32
  ⟨c0_i32_128, v260, c1_i32_130⟩
def k0_off15 (k0_t5 : Fin k0_t5_loop.trips) : Fin 2 → Nat :=
  let c0_i32_128 : BitVec 32 := 0#32
  let c1_i32_130 : BitVec 32 := 1#32
  let arg17 : BitVec 32 := Scf.iv c0_i32_128 c1_i32_130 k0_t5
  let v498 : Index := Scalar.indexCast arg17
  let c0_257 : Index := 0#32
  ![v498.toNat, 0]
def k0_off16 (k0_t5 : Fin k0_t5_loop.trips) : Fin 2 → Nat :=
  let c0_i32_128 : BitVec 32 := 0#32
  let c1_i32_130 : BitVec 32 := 1#32
  let arg17 : BitVec 32 := Scf.iv c0_i32_128 c1_i32_130 k0_t5
  let v511 : Index := Scalar.indexCast arg17
  let c16_260 : Index := 16#32
  ![v511.toNat, 16]
def k0_off17 (k0_t5 : Fin k0_t5_loop.trips) : Fin 2 → Nat :=
  let c0_i32_128 : BitVec 32 := 0#32
  let c1_i32_130 : BitVec 32 := 1#32
  let arg17 : BitVec 32 := Scf.iv c0_i32_128 c1_i32_130 k0_t5
  let v524 : Index := Scalar.indexCast arg17
  let c32_264 : Index := 32#32
  ![v524.toNat, 32]
def k0_off18 (k0_t5 : Fin k0_t5_loop.trips) : Fin 2 → Nat :=
  let c0_i32_128 : BitVec 32 := 0#32
  let c1_i32_130 : BitVec 32 := 1#32
  let arg17 : BitVec 32 := Scf.iv c0_i32_128 c1_i32_130 k0_t5
  let v537 : Index := Scalar.indexCast arg17
  let c48_268 : Index := 48#32
  ![v537.toNat, 48]
def k0_off19 (k0_t5 : Fin k0_t5_loop.trips) : Fin 2 → Nat :=
  let c0_i32_128 : BitVec 32 := 0#32
  let c1_i32_130 : BitVec 32 := 1#32
  let arg17 : BitVec 32 := Scf.iv c0_i32_128 c1_i32_130 k0_t5
  let v550 : Index := Scalar.indexCast arg17
  let c64_272 : Index := 64#32
  ![v550.toNat, 64]
def k0_off20 (k0_t5 : Fin k0_t5_loop.trips) : Fin 2 → Nat :=
  let c0_i32_128 : BitVec 32 := 0#32
  let c1_i32_130 : BitVec 32 := 1#32
  let arg17 : BitVec 32 := Scf.iv c0_i32_128 c1_i32_130 k0_t5
  let v563 : Index := Scalar.indexCast arg17
  let c80_276 : Index := 80#32
  ![v563.toNat, 80]
def k0_off21 (k0_t5 : Fin k0_t5_loop.trips) : Fin 2 → Nat :=
  let c0_i32_128 : BitVec 32 := 0#32
  let c1_i32_130 : BitVec 32 := 1#32
  let arg17 : BitVec 32 := Scf.iv c0_i32_128 c1_i32_130 k0_t5
  let v576 : Index := Scalar.indexCast arg17
  let c96_280 : Index := 96#32
  ![v576.toNat, 96]
def k0_off22 (k0_t5 : Fin k0_t5_loop.trips) : Fin 2 → Nat :=
  let c0_i32_128 : BitVec 32 := 0#32
  let c1_i32_130 : BitVec 32 := 1#32
  let arg17 : BitVec 32 := Scf.iv c0_i32_128 c1_i32_130 k0_t5
  let v589 : Index := Scalar.indexCast arg17
  let c112_284 : Index := 112#32
  ![v589.toNat, 112]
def k0_off23 (i : grid0.Coords) (k0_t3 : Fin (k0_t3_loop i).trips) : Fin 3 → Nat :=
  let c1_i32_133 : BitVec 32 := 1#32
  let c10000_i32_132 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c1_i32_15 : BitVec 32 := 1#32
  let arg16 : BitVec 32 := Scf.iv c0_i32_13 c1_i32_15 k0_t3
  let v24 : BitVec 32 := Scalar.addi v18 arg16
  let c128_i32 : BitVec 32 := 128#32
  let v25 : BitVec 32 := Scalar.muli v24 c128_i32
  let v261 : BitVec 32 := Scalar.addi c10000_i32_132 v25
  let c0_i32_257_r7 : BitVec 32 := 0#32
  ![1, v261.toNat, 0]
@[reducible] def k0_t6_loop : Scf.Loop 32 :=
  let c0_i32_190 : BitVec 32 := 0#32
  let c128_i32_191 : BitVec 32 := 128#32
  let v378 : BitVec 32 := Scalar.addi c0_i32_190 c128_i32_191
  let c1_i32_192 : BitVec 32 := 1#32
  ⟨c0_i32_190, v378, c1_i32_192⟩
def k0_off24 (k0_t6 : Fin k0_t6_loop.trips) : Fin 2 → Nat :=
  let c0_i32_190 : BitVec 32 := 0#32
  let c1_i32_192 : BitVec 32 := 1#32
  let arg17 : BitVec 32 := Scf.iv c0_i32_190 c1_i32_192 k0_t6
  let v498 : Index := Scalar.indexCast arg17
  let c0_257 : Index := 0#32
  ![v498.toNat, 0]
def k0_off25 (k0_t6 : Fin k0_t6_loop.trips) : Fin 2 → Nat :=
  let c0_i32_190 : BitVec 32 := 0#32
  let c1_i32_192 : BitVec 32 := 1#32
  let arg17 : BitVec 32 := Scf.iv c0_i32_190 c1_i32_192 k0_t6
  let v511 : Index := Scalar.indexCast arg17
  let c16_260 : Index := 16#32
  ![v511.toNat, 16]
def k0_off26 (k0_t6 : Fin k0_t6_loop.trips) : Fin 2 → Nat :=
  let c0_i32_190 : BitVec 32 := 0#32
  let c1_i32_192 : BitVec 32 := 1#32
  let arg17 : BitVec 32 := Scf.iv c0_i32_190 c1_i32_192 k0_t6
  let v524 : Index := Scalar.indexCast arg17
  let c32_264 : Index := 32#32
  ![v524.toNat, 32]
def k0_off27 (k0_t6 : Fin k0_t6_loop.trips) : Fin 2 → Nat :=
  let c0_i32_190 : BitVec 32 := 0#32
  let c1_i32_192 : BitVec 32 := 1#32
  let arg17 : BitVec 32 := Scf.iv c0_i32_190 c1_i32_192 k0_t6
  let v537 : Index := Scalar.indexCast arg17
  let c48_268 : Index := 48#32
  ![v537.toNat, 48]
def k0_off28 (k0_t6 : Fin k0_t6_loop.trips) : Fin 2 → Nat :=
  let c0_i32_190 : BitVec 32 := 0#32
  let c1_i32_192 : BitVec 32 := 1#32
  let arg17 : BitVec 32 := Scf.iv c0_i32_190 c1_i32_192 k0_t6
  let v550 : Index := Scalar.indexCast arg17
  let c64_272 : Index := 64#32
  ![v550.toNat, 64]
def k0_off29 (k0_t6 : Fin k0_t6_loop.trips) : Fin 2 → Nat :=
  let c0_i32_190 : BitVec 32 := 0#32
  let c1_i32_192 : BitVec 32 := 1#32
  let arg17 : BitVec 32 := Scf.iv c0_i32_190 c1_i32_192 k0_t6
  let v563 : Index := Scalar.indexCast arg17
  let c80_276 : Index := 80#32
  ![v563.toNat, 80]
def k0_off30 (k0_t6 : Fin k0_t6_loop.trips) : Fin 2 → Nat :=
  let c0_i32_190 : BitVec 32 := 0#32
  let c1_i32_192 : BitVec 32 := 1#32
  let arg17 : BitVec 32 := Scf.iv c0_i32_190 c1_i32_192 k0_t6
  let v576 : Index := Scalar.indexCast arg17
  let c96_280 : Index := 96#32
  ![v576.toNat, 96]
def k0_off31 (k0_t6 : Fin k0_t6_loop.trips) : Fin 2 → Nat :=
  let c0_i32_190 : BitVec 32 := 0#32
  let c1_i32_192 : BitVec 32 := 1#32
  let arg17 : BitVec 32 := Scf.iv c0_i32_190 c1_i32_192 k0_t6
  let v589 : Index := Scalar.indexCast arg17
  let c112_284 : Index := 112#32
  ![v589.toNat, 112]
def k0_off32 (i : grid0.Coords) (k0_t3 : Fin (k0_t3_loop i).trips) : Fin 3 → Nat :=
  let c2_i32_195 : BitVec 32 := 2#32
  let c10000_i32_194 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c1_i32_15 : BitVec 32 := 1#32
  let arg16 : BitVec 32 := Scf.iv c0_i32_13 c1_i32_15 k0_t3
  let v24 : BitVec 32 := Scalar.addi v18 arg16
  let c128_i32 : BitVec 32 := 128#32
  let v25 : BitVec 32 := Scalar.muli v24 c128_i32
  let v379 : BitVec 32 := Scalar.addi c10000_i32_194 v25
  let c0_i32_257_r8 : BitVec 32 := 0#32
  ![2, v379.toNat, 0]
@[reducible] def k0_t7_loop : Scf.Loop 32 :=
  let c0_i32_252 : BitVec 32 := 0#32
  let c128_i32_253 : BitVec 32 := 128#32
  let v496 : BitVec 32 := Scalar.addi c0_i32_252 c128_i32_253
  let c1_i32_254 : BitVec 32 := 1#32
  ⟨c0_i32_252, v496, c1_i32_254⟩
def k0_off33 (k0_t7 : Fin k0_t7_loop.trips) : Fin 2 → Nat :=
  let c0_i32_252 : BitVec 32 := 0#32
  let c1_i32_254 : BitVec 32 := 1#32
  let arg17 : BitVec 32 := Scf.iv c0_i32_252 c1_i32_254 k0_t7
  let v498 : Index := Scalar.indexCast arg17
  let c0_257 : Index := 0#32
  ![v498.toNat, 0]
def k0_off34 (k0_t7 : Fin k0_t7_loop.trips) : Fin 2 → Nat :=
  let c0_i32_252 : BitVec 32 := 0#32
  let c1_i32_254 : BitVec 32 := 1#32
  let arg17 : BitVec 32 := Scf.iv c0_i32_252 c1_i32_254 k0_t7
  let v511 : Index := Scalar.indexCast arg17
  let c16_260 : Index := 16#32
  ![v511.toNat, 16]
def k0_off35 (k0_t7 : Fin k0_t7_loop.trips) : Fin 2 → Nat :=
  let c0_i32_252 : BitVec 32 := 0#32
  let c1_i32_254 : BitVec 32 := 1#32
  let arg17 : BitVec 32 := Scf.iv c0_i32_252 c1_i32_254 k0_t7
  let v524 : Index := Scalar.indexCast arg17
  let c32_264 : Index := 32#32
  ![v524.toNat, 32]
def k0_off36 (k0_t7 : Fin k0_t7_loop.trips) : Fin 2 → Nat :=
  let c0_i32_252 : BitVec 32 := 0#32
  let c1_i32_254 : BitVec 32 := 1#32
  let arg17 : BitVec 32 := Scf.iv c0_i32_252 c1_i32_254 k0_t7
  let v537 : Index := Scalar.indexCast arg17
  let c48_268 : Index := 48#32
  ![v537.toNat, 48]
def k0_off37 (k0_t7 : Fin k0_t7_loop.trips) : Fin 2 → Nat :=
  let c0_i32_252 : BitVec 32 := 0#32
  let c1_i32_254 : BitVec 32 := 1#32
  let arg17 : BitVec 32 := Scf.iv c0_i32_252 c1_i32_254 k0_t7
  let v550 : Index := Scalar.indexCast arg17
  let c64_272 : Index := 64#32
  ![v550.toNat, 64]
def k0_off38 (k0_t7 : Fin k0_t7_loop.trips) : Fin 2 → Nat :=
  let c0_i32_252 : BitVec 32 := 0#32
  let c1_i32_254 : BitVec 32 := 1#32
  let arg17 : BitVec 32 := Scf.iv c0_i32_252 c1_i32_254 k0_t7
  let v563 : Index := Scalar.indexCast arg17
  let c80_276 : Index := 80#32
  ![v563.toNat, 80]
def k0_off39 (k0_t7 : Fin k0_t7_loop.trips) : Fin 2 → Nat :=
  let c0_i32_252 : BitVec 32 := 0#32
  let c1_i32_254 : BitVec 32 := 1#32
  let arg17 : BitVec 32 := Scf.iv c0_i32_252 c1_i32_254 k0_t7
  let v576 : Index := Scalar.indexCast arg17
  let c96_280 : Index := 96#32
  ![v576.toNat, 96]
def k0_off40 (k0_t7 : Fin k0_t7_loop.trips) : Fin 2 → Nat :=
  let c0_i32_252 : BitVec 32 := 0#32
  let c1_i32_254 : BitVec 32 := 1#32
  let arg17 : BitVec 32 := Scf.iv c0_i32_252 c1_i32_254 k0_t7
  let v589 : Index := Scalar.indexCast arg17
  let c112_284 : Index := 112#32
  ![v589.toNat, 112]
def k0_off41 (i : grid0.Coords) (k0_t3 : Fin (k0_t3_loop i).trips) : Fin 3 → Nat :=
  let c3_i32 : BitVec 32 := 3#32
  let c10000_i32_256 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c1_i32_15 : BitVec 32 := 1#32
  let arg16 : BitVec 32 := Scf.iv c0_i32_13 c1_i32_15 k0_t3
  let v24 : BitVec 32 := Scalar.addi v18 arg16
  let c128_i32 : BitVec 32 := 128#32
  let v25 : BitVec 32 := Scalar.muli v24 c128_i32
  let v497 : BitVec 32 := Scalar.addi c10000_i32_256 v25
  let c0_i32_257_r9 : BitVec 32 := 0#32
  ![3, v497.toNat, 0]
@[reducible] def k0_t8_loop (i : grid0.Coords) : Scf.Loop 32 :=
  let c0_i32_13 : BitVec 32 := 0#32
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v13 : BitVec 1 := Scalar.cmpi .slt v1 c2_i32_7
  let c1_i32_8 : BitVec 32 := 1#32
  let c0_i32_9 : BitVec 32 := 0#32
  let v14 : BitVec 32 := Scalar.select v13 c1_i32_8 c0_i32_9
  let v15 : BitVec 32 := Scalar.addi c39_i32 v14
  let v19 : BitVec 32 := Scalar.subi v15 c0_i32_13
  let c1_i32_14 : BitVec 32 := 1#32
  let v21 : BitVec 32 := Scalar.divsi v19 c1_i32_14
  let v22 : BitVec 32 := Scalar.muli v21 c1_i32_14
  let v23 : BitVec 32 := Scalar.addi c0_i32_13 v22
  let v20 : BitVec 32 := Scalar.addi c0_i32_13 v19
  let c1_i32_16 : BitVec 32 := 1#32
  ⟨v23, v20, c1_i32_16⟩
def k0_off42 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c39_i32 : BitVec 32 := 39#32
  let c2_i32_7 : BitVec 32 := 2#32
  let v13 : BitVec 1 := Scalar.cmpi .slt v1 c2_i32_7
  let c1_i32_8 : BitVec 32 := 1#32
  let c0_i32_9 : BitVec 32 := 0#32
  let v14 : BitVec 32 := Scalar.select v13 c1_i32_8 c0_i32_9
  let v15 : BitVec 32 := Scalar.addi c39_i32 v14
  let v19 : BitVec 32 := Scalar.subi v15 c0_i32_13
  let c1_i32_14 : BitVec 32 := 1#32
  let v21 : BitVec 32 := Scalar.divsi v19 c1_i32_14
  let v22 : BitVec 32 := Scalar.muli v21 c1_i32_14
  let v23 : BitVec 32 := Scalar.addi c0_i32_13 v22
  let c1_i32_16 : BitVec 32 := 1#32
  let arg16 : BitVec 32 := Scf.iv v23 c1_i32_16 k0_t8
  let v24 : BitVec 32 := Scalar.addi v18 arg16
  let c128_i32 : BitVec 32 := 128#32
  let v25 : BitVec 32 := Scalar.muli v24 c128_i32
  ![v25.toNat]
@[reducible] def k0_t9_loop : Scf.Loop 32 :=
  let c0_i32_66 : BitVec 32 := 0#32
  let c128_i32_67 : BitVec 32 := 128#32
  let v142 : BitVec 32 := Scalar.addi c0_i32_66 c128_i32_67
  let c1_i32_68 : BitVec 32 := 1#32
  ⟨c0_i32_66, v142, c1_i32_68⟩
def k0_off43 (k0_t9 : Fin k0_t9_loop.trips) : Fin 2 → Nat :=
  let c0_i32_66 : BitVec 32 := 0#32
  let c1_i32_68 : BitVec 32 := 1#32
  let arg17 : BitVec 32 := Scf.iv c0_i32_66 c1_i32_68 k0_t9
  let v498 : Index := Scalar.indexCast arg17
  let c0_257 : Index := 0#32
  ![v498.toNat, 0]
def k0_off44 (k0_t9 : Fin k0_t9_loop.trips) : Fin 2 → Nat :=
  let c0_i32_66 : BitVec 32 := 0#32
  let c1_i32_68 : BitVec 32 := 1#32
  let arg17 : BitVec 32 := Scf.iv c0_i32_66 c1_i32_68 k0_t9
  let v511 : Index := Scalar.indexCast arg17
  let c16_260 : Index := 16#32
  ![v511.toNat, 16]
def k0_off45 (k0_t9 : Fin k0_t9_loop.trips) : Fin 2 → Nat :=
  let c0_i32_66 : BitVec 32 := 0#32
  let c1_i32_68 : BitVec 32 := 1#32
  let arg17 : BitVec 32 := Scf.iv c0_i32_66 c1_i32_68 k0_t9
  let v524 : Index := Scalar.indexCast arg17
  let c32_264 : Index := 32#32
  ![v524.toNat, 32]
def k0_off46 (k0_t9 : Fin k0_t9_loop.trips) : Fin 2 → Nat :=
  let c0_i32_66 : BitVec 32 := 0#32
  let c1_i32_68 : BitVec 32 := 1#32
  let arg17 : BitVec 32 := Scf.iv c0_i32_66 c1_i32_68 k0_t9
  let v537 : Index := Scalar.indexCast arg17
  let c48_268 : Index := 48#32
  ![v537.toNat, 48]
def k0_off47 (k0_t9 : Fin k0_t9_loop.trips) : Fin 2 → Nat :=
  let c0_i32_66 : BitVec 32 := 0#32
  let c1_i32_68 : BitVec 32 := 1#32
  let arg17 : BitVec 32 := Scf.iv c0_i32_66 c1_i32_68 k0_t9
  let v550 : Index := Scalar.indexCast arg17
  let c64_272 : Index := 64#32
  ![v550.toNat, 64]
def k0_off48 (k0_t9 : Fin k0_t9_loop.trips) : Fin 2 → Nat :=
  let c0_i32_66 : BitVec 32 := 0#32
  let c1_i32_68 : BitVec 32 := 1#32
  let arg17 : BitVec 32 := Scf.iv c0_i32_66 c1_i32_68 k0_t9
  let v563 : Index := Scalar.indexCast arg17
  let c80_276 : Index := 80#32
  ![v563.toNat, 80]
def k0_off49 (k0_t9 : Fin k0_t9_loop.trips) : Fin 2 → Nat :=
  let c0_i32_66 : BitVec 32 := 0#32
  let c1_i32_68 : BitVec 32 := 1#32
  let arg17 : BitVec 32 := Scf.iv c0_i32_66 c1_i32_68 k0_t9
  let v576 : Index := Scalar.indexCast arg17
  let c96_280 : Index := 96#32
  ![v576.toNat, 96]
def k0_off50 (k0_t9 : Fin k0_t9_loop.trips) : Fin 2 → Nat :=
  let c0_i32_66 : BitVec 32 := 0#32
  let c1_i32_68 : BitVec 32 := 1#32
  let arg17 : BitVec 32 := Scf.iv c0_i32_66 c1_i32_68 k0_t9
  let v589 : Index := Scalar.indexCast arg17
  let c112_284 : Index := 112#32
  ![v589.toNat, 112]
def k0_off51 (i : grid0.Coords) (k0_t8 : Fin (k0_t8_loop i).trips) : Fin 3 → Nat :=
  let c0_i32_70 : BitVec 32 := 0#32
  let c10000_i32 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c39_i32 : BitVec 32 := 39#32
  let c2_i32_7 : BitVec 32 := 2#32
  let v13 : BitVec 1 := Scalar.cmpi .slt v1 c2_i32_7
  let c1_i32_8 : BitVec 32 := 1#32
  let c0_i32_9 : BitVec 32 := 0#32
  let v14 : BitVec 32 := Scalar.select v13 c1_i32_8 c0_i32_9
  let v15 : BitVec 32 := Scalar.addi c39_i32 v14
  let v19 : BitVec 32 := Scalar.subi v15 c0_i32_13
  let c1_i32_14 : BitVec 32 := 1#32
  let v21 : BitVec 32 := Scalar.divsi v19 c1_i32_14
  let v22 : BitVec 32 := Scalar.muli v21 c1_i32_14
  let v23 : BitVec 32 := Scalar.addi c0_i32_13 v22
  let c1_i32_16 : BitVec 32 := 1#32
  let arg16 : BitVec 32 := Scf.iv v23 c1_i32_16 k0_t8
  let v24 : BitVec 32 := Scalar.addi v18 arg16
  let c128_i32 : BitVec 32 := 128#32
  let v25 : BitVec 32 := Scalar.muli v24 c128_i32
  let v143 : BitVec 32 := Scalar.addi c10000_i32 v25
  let c0_i32_257_r12 : BitVec 32 := 0#32
  ![0, v143.toNat, 0]
@[reducible] def k0_t10_loop : Scf.Loop 32 :=
  let c0_i32_128 : BitVec 32 := 0#32
  let c128_i32_129 : BitVec 32 := 128#32
  let v260 : BitVec 32 := Scalar.addi c0_i32_128 c128_i32_129
  let c1_i32_130 : BitVec 32 := 1#32
  ⟨c0_i32_128, v260, c1_i32_130⟩
def k0_off52 (k0_t10 : Fin k0_t10_loop.trips) : Fin 2 → Nat :=
  let c0_i32_128 : BitVec 32 := 0#32
  let c1_i32_130 : BitVec 32 := 1#32
  let arg17 : BitVec 32 := Scf.iv c0_i32_128 c1_i32_130 k0_t10
  let v498 : Index := Scalar.indexCast arg17
  let c0_257 : Index := 0#32
  ![v498.toNat, 0]
def k0_off53 (k0_t10 : Fin k0_t10_loop.trips) : Fin 2 → Nat :=
  let c0_i32_128 : BitVec 32 := 0#32
  let c1_i32_130 : BitVec 32 := 1#32
  let arg17 : BitVec 32 := Scf.iv c0_i32_128 c1_i32_130 k0_t10
  let v511 : Index := Scalar.indexCast arg17
  let c16_260 : Index := 16#32
  ![v511.toNat, 16]
def k0_off54 (k0_t10 : Fin k0_t10_loop.trips) : Fin 2 → Nat :=
  let c0_i32_128 : BitVec 32 := 0#32
  let c1_i32_130 : BitVec 32 := 1#32
  let arg17 : BitVec 32 := Scf.iv c0_i32_128 c1_i32_130 k0_t10
  let v524 : Index := Scalar.indexCast arg17
  let c32_264 : Index := 32#32
  ![v524.toNat, 32]
def k0_off55 (k0_t10 : Fin k0_t10_loop.trips) : Fin 2 → Nat :=
  let c0_i32_128 : BitVec 32 := 0#32
  let c1_i32_130 : BitVec 32 := 1#32
  let arg17 : BitVec 32 := Scf.iv c0_i32_128 c1_i32_130 k0_t10
  let v537 : Index := Scalar.indexCast arg17
  let c48_268 : Index := 48#32
  ![v537.toNat, 48]
def k0_off56 (k0_t10 : Fin k0_t10_loop.trips) : Fin 2 → Nat :=
  let c0_i32_128 : BitVec 32 := 0#32
  let c1_i32_130 : BitVec 32 := 1#32
  let arg17 : BitVec 32 := Scf.iv c0_i32_128 c1_i32_130 k0_t10
  let v550 : Index := Scalar.indexCast arg17
  let c64_272 : Index := 64#32
  ![v550.toNat, 64]
def k0_off57 (k0_t10 : Fin k0_t10_loop.trips) : Fin 2 → Nat :=
  let c0_i32_128 : BitVec 32 := 0#32
  let c1_i32_130 : BitVec 32 := 1#32
  let arg17 : BitVec 32 := Scf.iv c0_i32_128 c1_i32_130 k0_t10
  let v563 : Index := Scalar.indexCast arg17
  let c80_276 : Index := 80#32
  ![v563.toNat, 80]
def k0_off58 (k0_t10 : Fin k0_t10_loop.trips) : Fin 2 → Nat :=
  let c0_i32_128 : BitVec 32 := 0#32
  let c1_i32_130 : BitVec 32 := 1#32
  let arg17 : BitVec 32 := Scf.iv c0_i32_128 c1_i32_130 k0_t10
  let v576 : Index := Scalar.indexCast arg17
  let c96_280 : Index := 96#32
  ![v576.toNat, 96]
def k0_off59 (k0_t10 : Fin k0_t10_loop.trips) : Fin 2 → Nat :=
  let c0_i32_128 : BitVec 32 := 0#32
  let c1_i32_130 : BitVec 32 := 1#32
  let arg17 : BitVec 32 := Scf.iv c0_i32_128 c1_i32_130 k0_t10
  let v589 : Index := Scalar.indexCast arg17
  let c112_284 : Index := 112#32
  ![v589.toNat, 112]
def k0_off60 (i : grid0.Coords) (k0_t8 : Fin (k0_t8_loop i).trips) : Fin 3 → Nat :=
  let c1_i32_133 : BitVec 32 := 1#32
  let c10000_i32_132 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c39_i32 : BitVec 32 := 39#32
  let c2_i32_7 : BitVec 32 := 2#32
  let v13 : BitVec 1 := Scalar.cmpi .slt v1 c2_i32_7
  let c1_i32_8 : BitVec 32 := 1#32
  let c0_i32_9 : BitVec 32 := 0#32
  let v14 : BitVec 32 := Scalar.select v13 c1_i32_8 c0_i32_9
  let v15 : BitVec 32 := Scalar.addi c39_i32 v14
  let v19 : BitVec 32 := Scalar.subi v15 c0_i32_13
  let c1_i32_14 : BitVec 32 := 1#32
  let v21 : BitVec 32 := Scalar.divsi v19 c1_i32_14
  let v22 : BitVec 32 := Scalar.muli v21 c1_i32_14
  let v23 : BitVec 32 := Scalar.addi c0_i32_13 v22
  let c1_i32_16 : BitVec 32 := 1#32
  let arg16 : BitVec 32 := Scf.iv v23 c1_i32_16 k0_t8
  let v24 : BitVec 32 := Scalar.addi v18 arg16
  let c128_i32 : BitVec 32 := 128#32
  let v25 : BitVec 32 := Scalar.muli v24 c128_i32
  let v261 : BitVec 32 := Scalar.addi c10000_i32_132 v25
  let c0_i32_257_r13 : BitVec 32 := 0#32
  ![1, v261.toNat, 0]
@[reducible] def k0_t11_loop : Scf.Loop 32 :=
  let c0_i32_190 : BitVec 32 := 0#32
  let c128_i32_191 : BitVec 32 := 128#32
  let v378 : BitVec 32 := Scalar.addi c0_i32_190 c128_i32_191
  let c1_i32_192 : BitVec 32 := 1#32
  ⟨c0_i32_190, v378, c1_i32_192⟩
def k0_off61 (k0_t11 : Fin k0_t11_loop.trips) : Fin 2 → Nat :=
  let c0_i32_190 : BitVec 32 := 0#32
  let c1_i32_192 : BitVec 32 := 1#32
  let arg17 : BitVec 32 := Scf.iv c0_i32_190 c1_i32_192 k0_t11
  let v498 : Index := Scalar.indexCast arg17
  let c0_257 : Index := 0#32
  ![v498.toNat, 0]
def k0_off62 (k0_t11 : Fin k0_t11_loop.trips) : Fin 2 → Nat :=
  let c0_i32_190 : BitVec 32 := 0#32
  let c1_i32_192 : BitVec 32 := 1#32
  let arg17 : BitVec 32 := Scf.iv c0_i32_190 c1_i32_192 k0_t11
  let v511 : Index := Scalar.indexCast arg17
  let c16_260 : Index := 16#32
  ![v511.toNat, 16]
def k0_off63 (k0_t11 : Fin k0_t11_loop.trips) : Fin 2 → Nat :=
  let c0_i32_190 : BitVec 32 := 0#32
  let c1_i32_192 : BitVec 32 := 1#32
  let arg17 : BitVec 32 := Scf.iv c0_i32_190 c1_i32_192 k0_t11
  let v524 : Index := Scalar.indexCast arg17
  let c32_264 : Index := 32#32
  ![v524.toNat, 32]
def k0_off64 (k0_t11 : Fin k0_t11_loop.trips) : Fin 2 → Nat :=
  let c0_i32_190 : BitVec 32 := 0#32
  let c1_i32_192 : BitVec 32 := 1#32
  let arg17 : BitVec 32 := Scf.iv c0_i32_190 c1_i32_192 k0_t11
  let v537 : Index := Scalar.indexCast arg17
  let c48_268 : Index := 48#32
  ![v537.toNat, 48]
def k0_off65 (k0_t11 : Fin k0_t11_loop.trips) : Fin 2 → Nat :=
  let c0_i32_190 : BitVec 32 := 0#32
  let c1_i32_192 : BitVec 32 := 1#32
  let arg17 : BitVec 32 := Scf.iv c0_i32_190 c1_i32_192 k0_t11
  let v550 : Index := Scalar.indexCast arg17
  let c64_272 : Index := 64#32
  ![v550.toNat, 64]
def k0_off66 (k0_t11 : Fin k0_t11_loop.trips) : Fin 2 → Nat :=
  let c0_i32_190 : BitVec 32 := 0#32
  let c1_i32_192 : BitVec 32 := 1#32
  let arg17 : BitVec 32 := Scf.iv c0_i32_190 c1_i32_192 k0_t11
  let v563 : Index := Scalar.indexCast arg17
  let c80_276 : Index := 80#32
  ![v563.toNat, 80]
def k0_off67 (k0_t11 : Fin k0_t11_loop.trips) : Fin 2 → Nat :=
  let c0_i32_190 : BitVec 32 := 0#32
  let c1_i32_192 : BitVec 32 := 1#32
  let arg17 : BitVec 32 := Scf.iv c0_i32_190 c1_i32_192 k0_t11
  let v576 : Index := Scalar.indexCast arg17
  let c96_280 : Index := 96#32
  ![v576.toNat, 96]
def k0_off68 (k0_t11 : Fin k0_t11_loop.trips) : Fin 2 → Nat :=
  let c0_i32_190 : BitVec 32 := 0#32
  let c1_i32_192 : BitVec 32 := 1#32
  let arg17 : BitVec 32 := Scf.iv c0_i32_190 c1_i32_192 k0_t11
  let v589 : Index := Scalar.indexCast arg17
  let c112_284 : Index := 112#32
  ![v589.toNat, 112]
def k0_off69 (i : grid0.Coords) (k0_t8 : Fin (k0_t8_loop i).trips) : Fin 3 → Nat :=
  let c2_i32_195 : BitVec 32 := 2#32
  let c10000_i32_194 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c39_i32 : BitVec 32 := 39#32
  let c2_i32_7 : BitVec 32 := 2#32
  let v13 : BitVec 1 := Scalar.cmpi .slt v1 c2_i32_7
  let c1_i32_8 : BitVec 32 := 1#32
  let c0_i32_9 : BitVec 32 := 0#32
  let v14 : BitVec 32 := Scalar.select v13 c1_i32_8 c0_i32_9
  let v15 : BitVec 32 := Scalar.addi c39_i32 v14
  let v19 : BitVec 32 := Scalar.subi v15 c0_i32_13
  let c1_i32_14 : BitVec 32 := 1#32
  let v21 : BitVec 32 := Scalar.divsi v19 c1_i32_14
  let v22 : BitVec 32 := Scalar.muli v21 c1_i32_14
  let v23 : BitVec 32 := Scalar.addi c0_i32_13 v22
  let c1_i32_16 : BitVec 32 := 1#32
  let arg16 : BitVec 32 := Scf.iv v23 c1_i32_16 k0_t8
  let v24 : BitVec 32 := Scalar.addi v18 arg16
  let c128_i32 : BitVec 32 := 128#32
  let v25 : BitVec 32 := Scalar.muli v24 c128_i32
  let v379 : BitVec 32 := Scalar.addi c10000_i32_194 v25
  let c0_i32_257_r14 : BitVec 32 := 0#32
  ![2, v379.toNat, 0]
@[reducible] def k0_t12_loop : Scf.Loop 32 :=
  let c0_i32_252 : BitVec 32 := 0#32
  let c128_i32_253 : BitVec 32 := 128#32
  let v496 : BitVec 32 := Scalar.addi c0_i32_252 c128_i32_253
  let c1_i32_254 : BitVec 32 := 1#32
  ⟨c0_i32_252, v496, c1_i32_254⟩
def k0_off70 (k0_t12 : Fin k0_t12_loop.trips) : Fin 2 → Nat :=
  let c0_i32_252 : BitVec 32 := 0#32
  let c1_i32_254 : BitVec 32 := 1#32
  let arg17 : BitVec 32 := Scf.iv c0_i32_252 c1_i32_254 k0_t12
  let v498 : Index := Scalar.indexCast arg17
  let c0_257 : Index := 0#32
  ![v498.toNat, 0]
def k0_off71 (k0_t12 : Fin k0_t12_loop.trips) : Fin 2 → Nat :=
  let c0_i32_252 : BitVec 32 := 0#32
  let c1_i32_254 : BitVec 32 := 1#32
  let arg17 : BitVec 32 := Scf.iv c0_i32_252 c1_i32_254 k0_t12
  let v511 : Index := Scalar.indexCast arg17
  let c16_260 : Index := 16#32
  ![v511.toNat, 16]
def k0_off72 (k0_t12 : Fin k0_t12_loop.trips) : Fin 2 → Nat :=
  let c0_i32_252 : BitVec 32 := 0#32
  let c1_i32_254 : BitVec 32 := 1#32
  let arg17 : BitVec 32 := Scf.iv c0_i32_252 c1_i32_254 k0_t12
  let v524 : Index := Scalar.indexCast arg17
  let c32_264 : Index := 32#32
  ![v524.toNat, 32]
def k0_off73 (k0_t12 : Fin k0_t12_loop.trips) : Fin 2 → Nat :=
  let c0_i32_252 : BitVec 32 := 0#32
  let c1_i32_254 : BitVec 32 := 1#32
  let arg17 : BitVec 32 := Scf.iv c0_i32_252 c1_i32_254 k0_t12
  let v537 : Index := Scalar.indexCast arg17
  let c48_268 : Index := 48#32
  ![v537.toNat, 48]
def k0_off74 (k0_t12 : Fin k0_t12_loop.trips) : Fin 2 → Nat :=
  let c0_i32_252 : BitVec 32 := 0#32
  let c1_i32_254 : BitVec 32 := 1#32
  let arg17 : BitVec 32 := Scf.iv c0_i32_252 c1_i32_254 k0_t12
  let v550 : Index := Scalar.indexCast arg17
  let c64_272 : Index := 64#32
  ![v550.toNat, 64]
def k0_off75 (k0_t12 : Fin k0_t12_loop.trips) : Fin 2 → Nat :=
  let c0_i32_252 : BitVec 32 := 0#32
  let c1_i32_254 : BitVec 32 := 1#32
  let arg17 : BitVec 32 := Scf.iv c0_i32_252 c1_i32_254 k0_t12
  let v563 : Index := Scalar.indexCast arg17
  let c80_276 : Index := 80#32
  ![v563.toNat, 80]
def k0_off76 (k0_t12 : Fin k0_t12_loop.trips) : Fin 2 → Nat :=
  let c0_i32_252 : BitVec 32 := 0#32
  let c1_i32_254 : BitVec 32 := 1#32
  let arg17 : BitVec 32 := Scf.iv c0_i32_252 c1_i32_254 k0_t12
  let v576 : Index := Scalar.indexCast arg17
  let c96_280 : Index := 96#32
  ![v576.toNat, 96]
def k0_off77 (k0_t12 : Fin k0_t12_loop.trips) : Fin 2 → Nat :=
  let c0_i32_252 : BitVec 32 := 0#32
  let c1_i32_254 : BitVec 32 := 1#32
  let arg17 : BitVec 32 := Scf.iv c0_i32_252 c1_i32_254 k0_t12
  let v589 : Index := Scalar.indexCast arg17
  let c112_284 : Index := 112#32
  ![v589.toNat, 112]
def k0_off78 (i : grid0.Coords) (k0_t8 : Fin (k0_t8_loop i).trips) : Fin 3 → Nat :=
  let c3_i32 : BitVec 32 := 3#32
  let c10000_i32_256 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_10 : BitVec 32 := 39#32
  let v16 : BitVec 32 := Scalar.muli v1 c39_i32_10
  let c2_i32_11 : BitVec 32 := 2#32
  let v17 : BitVec 32 := Scalar.minsi v1 c2_i32_11
  let v18 : BitVec 32 := Scalar.addi v16 v17
  let c0_i32_13 : BitVec 32 := 0#32
  let c39_i32 : BitVec 32 := 39#32
  let c2_i32_7 : BitVec 32 := 2#32
  let v13 : BitVec 1 := Scalar.cmpi .slt v1 c2_i32_7
  let c1_i32_8 : BitVec 32 := 1#32
  let c0_i32_9 : BitVec 32 := 0#32
  let v14 : BitVec 32 := Scalar.select v13 c1_i32_8 c0_i32_9
  let v15 : BitVec 32 := Scalar.addi c39_i32 v14
  let v19 : BitVec 32 := Scalar.subi v15 c0_i32_13
  let c1_i32_14 : BitVec 32 := 1#32
  let v21 : BitVec 32 := Scalar.divsi v19 c1_i32_14
  let v22 : BitVec 32 := Scalar.muli v21 c1_i32_14
  let v23 : BitVec 32 := Scalar.addi c0_i32_13 v22
  let c1_i32_16 : BitVec 32 := 1#32
  let arg16 : BitVec 32 := Scf.iv v23 c1_i32_16 k0_t8
  let v24 : BitVec 32 := Scalar.addi v18 arg16
  let c128_i32 : BitVec 32 := 128#32
  let v25 : BitVec 32 := Scalar.muli v24 c128_i32
  let v497 : BitVec 32 := Scalar.addi c10000_i32_256 v25
  let c0_i32_257_r15 : BitVec 32 := 0#32
  ![3, v497.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x10000x128 : Shape := ⟨3, ![4, 10000, 128]⟩
abbrev S160000x2 : Shape := ⟨2, ![160000, 2]⟩
abbrev S_ : Shape := ⟨0, ![]⟩
abbrev S160000x2x1 : Shape := ⟨3, ![160000, 2, 1]⟩
abbrev S1 : Shape := ⟨1, ![1]⟩
abbrev S1x1x1 : Shape := ⟨3, ![1, 1, 1]⟩
abbrev S4x160000x2x128 : Shape := ⟨4, ![4, 160000, 2, 128]⟩
abbrev S4x160000x128 : Shape := ⟨3, ![4, 160000, 128]⟩
abbrev S4x170000x128 : Shape := ⟨3, ![4, 170000, 128]⟩

abbrev nBuf : Space → Nat
  | .hbm => 31
  | .vmem => 0
  | .smem => 0
  | _ => 0

abbrev bufTy : (tb : Table) → Fin (tcTables nBuf tb) → BufTy
  | .hbm, ⟨0, _⟩ => ⟨S4x10000x128, .f32⟩
  | .hbm, ⟨1, _⟩ => ⟨S160000x2, .i32⟩
  | .hbm, ⟨2, _⟩ => ⟨S_, .i32⟩
  | .hbm, ⟨3, _⟩ => ⟨S160000x2, .i32⟩
  | .hbm, ⟨4, _⟩ => ⟨S160000x2, .i1⟩
  | .hbm, ⟨5, _⟩ => ⟨S_, .i32⟩
  | .hbm, ⟨6, _⟩ => ⟨S160000x2, .i32⟩
  | .hbm, ⟨7, _⟩ => ⟨S160000x2, .i32⟩
  | .hbm, ⟨8, _⟩ => ⟨S160000x2, .i32⟩
  | .hbm, ⟨9, _⟩ => ⟨S160000x2x1, .i32⟩
  | .hbm, ⟨10, _⟩ => ⟨S1, .i32⟩
  | .hbm, ⟨11, _⟩ => ⟨S_, .i32⟩
  | .hbm, ⟨12, _⟩ => ⟨S160000x2x1, .i32⟩
  | .hbm, ⟨13, _⟩ => ⟨S160000x2x1, .i1⟩
  | .hbm, ⟨14, _⟩ => ⟨S1x1x1, .i32⟩
  | .hbm, ⟨15, _⟩ => ⟨S160000x2x1, .i32⟩
  | .hbm, ⟨16, _⟩ => ⟨S160000x2x1, .i1⟩
  | .hbm, ⟨17, _⟩ => ⟨S160000x2x1, .i1⟩
  | .hbm, ⟨18, _⟩ => ⟨S_, .i1⟩
  | .hbm, ⟨19, _⟩ => ⟨S160000x2, .i1⟩
  | .hbm, ⟨20, _⟩ => ⟨S4x160000x2x128, .f32⟩
  | .hbm, ⟨21, _⟩ => ⟨S4x160000x2x128, .i1⟩
  | .hbm, ⟨22, _⟩ => ⟨S_, .f32⟩
  | .hbm, ⟨23, _⟩ => ⟨S4x160000x2x128, .f32⟩
  | .hbm, ⟨24, _⟩ => ⟨S4x160000x2x128, .f32⟩
  | .hbm, ⟨25, _⟩ => ⟨S_, .f32⟩
  | .hbm, ⟨26, _⟩ => ⟨S4x160000x128, .f32⟩
  | .hbm, ⟨27, _⟩ => ⟨S_, .f32⟩
  | .hbm, ⟨28, _⟩ => ⟨S4x160000x128, .f32⟩
  | .hbm, ⟨29, _⟩ => ⟨S4x160000x128, .f32⟩
  | .hbm, ⟨30, _⟩ => ⟨S4x170000x128, .f32⟩
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.KI.Base.lean ====
/-
  The program as the launch theorem sees it, the memrefs under short names, and the closed forms of the offsets the
  tile program computes: the tile on SparseCore `c` and subcore `s` is worker `2 s + c` of 32.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import Idealize.ShloMosaic.Lib.LoopRemainder
public import proofs.«01_k».proof.Proof.Gen.KernelIdeal
public import proofs.«01_k».proof.Proof.Gen.KernelIdeal.Skeleton
public import proofs.«01_k».proof.Proof.Gen.Pre_in_range

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side facts of the launch: the handshake cells are distinct and of the right scope. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-! ## The workers and their shares of the work -/

/-- The worker number of a tile. -/
def wid (i : grid0.Coords) : ℕ := (i 1).val * 2 + (i 0).val

/-- The first block of 80 vertex rows that worker `w` copies. -/
def cpLo (w : ℕ) : ℕ := 15 * w + min w 20
/-- The number of blocks of 80 vertex rows that worker `w` copies. -/
def cpCnt (w : ℕ) : ℕ := if w < 20 then 16 else 15
/-- The first chunk of 128 edges that worker `w` averages. -/
def chLo (w : ℕ) : ℕ := 39 * w + min w 2
/-- The number of chunks of 128 edges that worker `w` averages. -/
def chCnt (w : ℕ) : ℕ := if w < 2 then 40 else 39

theorem wid_lt (i : grid0.Coords) : wid i < 32 := by
  have h0 : (i 0).val < 2 := (i 0).isLt
  have h1 : (i 1).val < 16 := (i 1).isLt
  unfold wid; omega

/-! ## The loops' trip counts -/

theorem t1_trips : ∀ i : grid0.Coords, (k0_t1_loop i).trips = cpCnt (wid i) := by decide +kernel
theorem t3_trips : ∀ i : grid0.Coords, (k0_t3_loop i).trips = chCnt (wid i) := by decide +kernel
theorem t2_trips (i : grid0.Coords) : (k0_t2_loop i).trips = 0 := Nat.le_zero.mp (k0_t2_abs i).2.1
theorem t8_trips (i : grid0.Coords) : (k0_t8_loop i).trips = 0 := Nat.le_zero.mp (k0_t8_abs i).2.1
theorem t7_trips : k0_t7_loop.trips = 128 := by decide +kernel
theorem t4_trips : k0_t4_loop.trips = 128 := by decide +kernel

/-! ## The offsets in closed form -/

theorem off1_eq : ∀ (i : grid0.Coords) (t : Fin (k0_t1_loop i).trips), k0_off1 i t = ![80 * (cpLo (wid i) + t.val), 0] := by decide +kernel
theorem off2_eq : ∀ (i : grid0.Coords) (t : Fin (k0_t1_loop i).trips),
    k0_off2 i t = ![(cpLo (wid i) + t.val) / 125, (cpLo (wid i) + t.val) % 125 * 80, 0] := by decide +kernel
theorem off5_eq : ∀ (i : grid0.Coords) (t : Fin (k0_t3_loop i).trips), k0_off5 i t = ![128 * (chLo (wid i) + t.val)] := by decide +kernel
theorem off14_eq : ∀ (i : grid0.Coords) (t : Fin (k0_t3_loop i).trips), k0_off14 i t = ![0, 10000 + 128 * (chLo (wid i) + t.val), 0] := by decide +kernel
theorem off23_eq : ∀ (i : grid0.Coords) (t : Fin (k0_t3_loop i).trips), k0_off23 i t = ![1, 10000 + 128 * (chLo (wid i) + t.val), 0] := by decide +kernel
theorem off32_eq : ∀ (i : grid0.Coords) (t : Fin (k0_t3_loop i).trips), k0_off32 i t = ![2, 10000 + 128 * (chLo (wid i) + t.val), 0] := by decide +kernel
theorem off41_eq : ∀ (i : grid0.Coords) (t : Fin (k0_t3_loop i).trips), k0_off41 i t = ![3, 10000 + 128 * (chLo (wid i) + t.val), 0] := by decide +kernel

theorem off6_eq : ∀ t : Fin k0_t4_loop.trips, k0_off6 t = ![t.val, 0] := by decide +kernel
theorem off7_eq : ∀ t : Fin k0_t4_loop.trips, k0_off7 t = ![t.val, 16] := by decide +kernel
theorem off8_eq : ∀ t : Fin k0_t4_loop.trips, k0_off8 t = ![t.val, 32] := by decide +kernel
theorem off9_eq : ∀ t : Fin k0_t4_loop.trips, k0_off9 t = ![t.val, 48] := by decide +kernel
theorem off10_eq : ∀ t : Fin k0_t4_loop.trips, k0_off10 t = ![t.val, 64] := by decide +kernel
theorem off11_eq : ∀ t : Fin k0_t4_loop.trips, k0_off11 t = ![t.val, 80] := by decide +kernel
theorem off12_eq : ∀ t : Fin k0_t4_loop.trips, k0_off12 t = ![t.val, 96] := by decide +kernel
theorem off13_eq : ∀ t : Fin k0_t4_loop.trips, k0_off13 t = ![t.val, 112] := by decide +kernel

end Cert.Proof.KI

end
-- ==== Proof.KI.Row.lean ====
/-
  The averaging loop over the 128 rows of a chunk: row `k` of the result buffer becomes half the sum of row `k` of the two
  gathered buffers, lane by lane. The four batches run the same loop.
-/
module

public import proofs.«01_k».proof.Proof.KI.Base
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

/-- The subcore thread of a tile. -/
abbrev thr (d : Dev nD) (L : grid0.Coords) : Thread nD τ := V d ((L 0).castLE hcore0) ((L 1).castLE hsub0)

variable [FloatOps F]

/-- Half the sum of two floats. -/
def avg (a b : F .f32) : F .f32 := FloatOps.mulf (FloatOps.addf a b) (FloatOps.ofBits .f32 0x3F000000#32)

omit [FloatOps F] in
/-- Stores whose payloads all come from one function leave that function wherever it was there before or a store wrote. -/
theorem writes_row {sp : Space} {s : Shape} {e : EltTy} (v : View Cert.KernelIdeal.sig .scVector sp s e) (f : v.ty.Contents (Elt F))
    (G : s.Idx → Elt F e) (Ls : List (View.Piece (Elt F) s e)) (y : s.Idx) (hG : ∀ p ∈ Ls, ∀ x, p.2 x = G (p.1.emb x))
    (hn : (∀ p ∈ Ls, y ∉ p.1.set) → v.read (Elt F) f y = G y) : v.read (Elt F) (v.writes (Elt F) f Ls) y = G y := by
  by_cases h : ∃ p ∈ Ls, y ∈ p.1.set
  · exact View.read_writes_apply_of_pieces v f G Ls hG y h
  · push Not at h
    rw [View.read_writes_apply_of_forall_not_mem v f y Ls h]
    exact hn h

/-- What a store of the row loop writes: lane by lane, half the sum of the two loaded vectors. -/
theorem pay_apply (a b : Vec F S1x16 .f32) (x : S1x16.Idx) : k0_pay5 a b x = avg (a x) (b x) := by
  have h (v : Vec F S1x16 .f32) : shapeCast S1x16 (shapeCast S16 v shapeCasts_S1x16_S16) shapeCasts_S16_S1x16 x = v x := by
    rw [shapeCast_shapeCast]
  show avg (shapeCast S1x16 (shapeCast S16 a shapeCasts_S1x16_S16) shapeCasts_S16_S1x16 x)
    (shapeCast S1x16 (shapeCast S16 b shapeCasts_S1x16_S16) shapeCasts_S16_S1x16 x) = _
  rw [h, h]

/-- Sixteen lanes of row `k` from column `c` hold the position `y` of that row whose column is among them. -/
theorem mem_piece {off : Fin 2 → ℕ} {k c : ℕ} (h : off = ![k, c]) (inb : ∀ a, off a + S1x16.size a ≤ S128x128.size a)
    (y : S128x128.Idx) (hr : (y 0).val = k) (hc : c ≤ (y 1).val ∧ (y 1).val < c + 16) : y ∈ (Rect.unit (s := S128x128) off S1x16.size inb).set := by
  subst h
  rw [Rect.mem_set_unit]
  intro a
  fin_cases a
  · exact ⟨hr.ge, hr ▸ Nat.lt_succ_self _⟩
  · exact hc

/-- Row loop's region, as batch 0 runs it. -/
abbrev rowBody (L : grid0.Coords) (t : Fin (k0_t3_loop L).trips) (v25 : BitVec 32) (v130 : IVec S16 32) :=
  k0_t4_body (F := F) L tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 t v25 v130

section
variable (d : Dev nD) (L : grid0.Coords)

/-- Before row `k`: the two gathered buffers at `fa` and `fb`; the result buffer averaged on the rows below `k`. -/
def rowInv (fa : Buf (Elt F) ((aV).view.loc (thr d L))) (fb : Buf (Elt F) ((bV).view.loc (thr d L))) (k : ℕ) (_ : Unit) : sProp 𝕄 :=
  iprop(((aV).view.loc (thr d L) ↦{fullShare} fa) ∗ ((bV).view.loc (thr d L) ↦{fullShare} fb)
    ∗ ∃ f : Buf (Elt F) ((rV).view.loc (thr d L)), ⌜∀ y : S128x128.Idx, (y 0).val < k → f y = avg (fa y) (fb y)⌝ ∗ (rV).view.loc (thr d L) ↦{fullShare} f)

theorem rowTrip (fa : Buf (Elt F) ((aV).view.loc (thr d L))) (fb : Buf (Elt F) ((bV).view.loc (thr d L)))
    (t : Fin (k0_t3_loop L).trips) (v25 : BitVec 32) (v130 : IVec S16 32) (k : Fin k0_t4_loop.trips) :
    rowInv d L fa fb k.val ()
      ⊢ wp frame (wpE (defs₀ (F := F)) 𝒱₀ (thr d L) none) Set.univ (rowBody L t v25 v130 k ()) (rowInv d L fa fb (k.val + 1)) := by
  unfold rowInv rowBody k0_t4_body
  iintro ⟨Ha, Hb, %f, %hf, Hr⟩
  sl_exec
  sl_step
  isplitl [Ha]; · iexact Ha
  isplitl [Hb]; · iexact Hb
  iexists _
  isplitr
  swap; · iexact Hr
  ipureintro
  intro y hy
  have hP : ∀ (off : Fin 2 → ℕ) (inb : ∀ a, off a + S1x16.size a ≤ S128x128.size a) (x : S1x16.Idx),
      k0_pay5 ((aV).view.readAt (Elt F) (Rect.unit (s := S128x128) off S1x16.size inb).toLoadRect fa)
        ((bV).view.readAt (Elt F) (Rect.unit (s := S128x128) off S1x16.size inb).toLoadRect fb) x
      = (fun z => avg (fa z) (fb z)) ((Rect.unit (s := S128x128) off S1x16.size inb).emb x) := fun off inb x => pay_apply _ _ x
  refine (show ∀ g : Buf (Elt F) ((rV).view.loc (thr d L)), (rV).view.read (Elt F) g y = avg (fa y) (fb y) → g y = avg (fa y) (fb y) from
    fun _ h => h) _ ?_
  refine writes_row (rV).view f (fun z => avg (fa z) (fb z)) _ y ?_ ?_
  · simp only [List.forall_mem_cons, List.not_mem_nil, IsEmpty.forall_iff, implies_true, and_true]
    exact ⟨hP _ _, hP _ _, hP _ _, hP _ _, hP _ _, hP _ _, hP _ _, hP _ _⟩
  · intro hn
    refine hf y ?_
    by_contra hlt
    have hk : (y 0).val = k.val := by omega
    have h1 : (y 1).val < 128 := (y 1).isLt
    simp only [List.forall_mem_cons] at hn
    obtain ⟨h13, h12, h11, h10, h9, h8, h7, h6, -⟩ := hn
    have n6 := mt (mem_piece (off6_eq k) _ y hk) h6
    have n7 := mt (mem_piece (off7_eq k) _ y hk) h7
    have n8 := mt (mem_piece (off8_eq k) _ y hk) h8
    have n9 := mt (mem_piece (off9_eq k) _ y hk) h9
    have n10 := mt (mem_piece (off10_eq k) _ y hk) h10
    have n11 := mt (mem_piece (off11_eq k) _ y hk) h11
    have n12 := mt (mem_piece (off12_eq k) _ y hk) h12
    have n13 := mt (mem_piece (off13_eq k) _ y hk) h13
    omega
/-- A trip of the averaging loop, as batch 1 runs it: the same program. -/
theorem rowTrip5 (fa : Buf (Elt F) ((aV).view.loc (thr d L))) (fb : Buf (Elt F) ((bV).view.loc (thr d L))) (t : Fin (k0_t3_loop L).trips) (v25 : BitVec 32) (k : Fin k0_t5_loop.trips) :
    rowInv d L fa fb k.val ()
      ⊢ wp frame (wpE (defs₀ (F := F)) 𝒱₀ (thr d L) none) Set.univ (k0_t5_body (F := F) L tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 t v25 k ()) (rowInv d L fa fb (k.val + 1)) :=
  rowTrip d L fa fb t v25 (fun _ => 0#32) k

/-- A trip of the averaging loop, as batch 2 runs it: the same program. -/
theorem rowTrip6 (fa : Buf (Elt F) ((aV).view.loc (thr d L))) (fb : Buf (Elt F) ((bV).view.loc (thr d L))) (t : Fin (k0_t3_loop L).trips) (v25 : BitVec 32) (v356 : IVec S16 32) (k : Fin k0_t6_loop.trips) :
    rowInv d L fa fb k.val ()
      ⊢ wp frame (wpE (defs₀ (F := F)) 𝒱₀ (thr d L) none) Set.univ (k0_t6_body (F := F) L tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 t v25 v356 k ()) (rowInv d L fa fb (k.val + 1)) :=
  rowTrip d L fa fb t v25 v356 k

/-- A trip of the averaging loop, as batch 3 runs it: the same program. -/
theorem rowTrip7 (fa : Buf (Elt F) ((aV).view.loc (thr d L))) (fb : Buf (Elt F) ((bV).view.loc (thr d L))) (t : Fin (k0_t3_loop L).trips) (k : Fin k0_t7_loop.trips) :
    rowInv d L fa fb k.val ()
      ⊢ wp frame (wpE (defs₀ (F := F)) 𝒱₀ (thr d L) none) Set.univ (k0_t7_body (F := F) L tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 k ()) (rowInv d L fa fb (k.val + 1)) :=
  rowTrip d L fa fb t 0#32 (fun _ => 0#32) k
end

end Cert.Proof.KI

end
-- ==== Proof.KI.Value.lean ====
/-
  What the kernel computes, as one function of the table and the two index arrays, and which rows of the output each
  worker writes: the blocks of 80 vertex rows and the chunks of 128 edge rows of its share.
-/
module

public import proofs.«01_k».proof.Proof.KI.Row
public import Idealize.ShloMosaic.Lib.ValueLayout

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2 eq_ix3 reshapeEquiv_ix2_1ab)

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

/-! ## Ownership of the output's rows -/

/-- The block of 80 vertex rows, counted through the batches, a position of the output lies in. -/
def cpOf (y : S4x170000x128.Idx) : ℕ := (y 0).val * 125 + (y 1).val / 80
/-- The chunk of 128 edges a position of the output lies in. -/
def chOf (y : S4x170000x128.Idx) : ℕ := ((y 1).val - 10000) / 128

/-- The position lies in one of the first `k` vertex blocks of worker `w`. -/
def cpDone (w k : ℕ) (y : S4x170000x128.Idx) : Prop := (y 1).val < 10000 ∧ cpLo w ≤ cpOf y ∧ cpOf y < cpLo w + k
/-- The position lies in one of the first `k` edge chunks of worker `w`. -/
def chDone (w k : ℕ) (y : S4x170000x128.Idx) : Prop := 10000 ≤ (y 1).val ∧ chLo w ≤ chOf y ∧ chOf y < chLo w + k

instance (w k : ℕ) (y : S4x170000x128.Idx) : Decidable (cpDone w k y) := by unfold cpDone; infer_instance
instance (w k : ℕ) (y : S4x170000x128.Idx) : Decidable (chDone w k y) := by unfold chDone; infer_instance

/-- The positions of the output that worker `w` writes. -/
def outSet (w : ℕ) : Finset S4x170000x128.Idx := Finset.univ.filter fun y => cpDone w (cpCnt w) y ∨ chDone w (chCnt w) y

theorem mem_outSet {w : ℕ} {y : S4x170000x128.Idx} : y ∈ outSet w ↔ cpDone w (cpCnt w) y ∨ chDone w (chCnt w) y := by
  simp [outSet]

/-! ## The value -/

/-- Row `n` of batch `b` in the flat table. -/
def tRow (b n : ℕ) : Fin 40000 := ⟨(b * 10000 + n) % 40000, Nat.mod_lt _ (by decide)⟩

/-- The edge of an output position. -/
def edge (y : S4x170000x128.Idx) : S160000.Idx := ix1 ⟨((y 1).val - 10000) % 160000, Nat.mod_lt _ (by decide)⟩

variable [FloatOps F]

/-- The output: the vertex rows, then for each edge half the sum of its two vertices' rows. -/
def G (fT : S40000x128.Idx → F .f32) (f0 f1 : S160000.Idx → BitVec 32) (y : S4x170000x128.Idx) : F .f32 :=
  if (y 1).val < 10000 then fT (ix2 (tRow (y 0).val (y 1).val) (y 2))
  else avg (fT (ix2 (tRow (y 0).val (f0 (edge y)).toNat) (y 2))) (fT (ix2 (tRow (y 0).val (f1 (edge y)).toNat) (y 2)))

/-! ## A block of the output's rows as the program slices it -/

/-- `n` rows of the output from `off`, the unit axis dropped. -/
abbrev oBlk (n : ℕ) (off : Fin 3 → ℕ) (inb : ∀ a, off a + (⟨3, ![1, n, 128]⟩ : Shape).size a ≤ S4x170000x128.size a)
    (hs : (⟨3, ![1, n, 128]⟩ : Shape).Squeezes ⟨2, ![n, 128]⟩) : Memref Cert.KernelIdeal.sig Kind.scVector Space.hbm ⟨2, ![n, 128]⟩ EltTy.f32 :=
  ((oV).slice (Rect.unit (s := S4x170000x128) off (⟨3, ![1, n, 128]⟩ : Shape).size inb) (fun _ => rfl)).squeeze ⟨2, ![n, 128]⟩ hs

omit [FloatOps F] in
/-- Where row `r`, lane `l` of a block lies in the output. -/
theorem oBlk_emb {n : ℕ} {off : Fin 3 → ℕ} (inb) (hs) (r : Fin n) (l : Fin 128) (a : Fin 3) :
    (((oBlk n off inb hs).view.emb (ix2 r l) : S4x170000x128.Idx) a).val = off a + (ix3 (⟨0, Nat.one_pos⟩ : Fin 1) r l a).val := by
  have e := reshapeEquiv_ix2_1ab hs.numel_eq r l
  have e' := congrArg (fun z : (⟨3, ![1, n, 128]⟩ : Shape).Idx => off a + 1 * (z a).val) e
  exact e'.trans (by rw [Nat.one_mul])

omit [FloatOps F] in
theorem oBlk_set {n : ℕ} {off : Fin 3 → ℕ} (inb) (hs) (y : S4x170000x128.Idx) :
    y ∈ (oBlk n off inb hs).view.set ↔ (y 0).val = off 0 ∧ off 1 ≤ (y 1).val ∧ (y 1).val < off 1 + n ∧ off 2 ≤ (y 2).val ∧ (y 2).val < off 2 + 128 := by
  have h : (oBlk n off inb hs).view.set = (Rect.unit (s := S4x170000x128) off (⟨3, ![1, n, 128]⟩ : Shape).size inb).set := by
    rw [Memref.set_view_squeeze]; exact View.set_slice_whole _ _
  rw [h, Rect.mem_set_unit]
  constructor
  · intro H
    have h0 := H 0; have h1 := H 1; have h2 := H 2
    have e0 : (⟨3, ![1, n, 128]⟩ : Shape).size 0 = 1 := rfl
    have e1 : (⟨3, ![1, n, 128]⟩ : Shape).size 1 = n := rfl
    have e2 : (⟨3, ![1, n, 128]⟩ : Shape).size 2 = 128 := rfl
    rw [e0] at h0; rw [e1] at h1; rw [e2] at h2
    omega
  · rintro ⟨h0, h1, h2, h3, h4⟩ a
    have e0 : (⟨3, ![1, n, 128]⟩ : Shape).size 0 = 1 := rfl
    have e1 : (⟨3, ![1, n, 128]⟩ : Shape).size 1 = n := rfl
    have e2 : (⟨3, ![1, n, 128]⟩ : Shape).size 2 = 128 := rfl
    match a with
    | ⟨0, _⟩ => exact ⟨h0.ge, by have := e0; show (y 0).val < off 0 + (⟨3, ![1, n, 128]⟩ : Shape).size 0; omega⟩
    | ⟨1, _⟩ => exact ⟨h1, h2⟩
    | ⟨2, _⟩ => exact ⟨h3, h4⟩

omit [FloatOps F] in
/-- A block written with a payload that agrees with `g` on the block holds `g` there. -/
theorem oBlk_write {n : ℕ} {off : Fin 3 → ℕ} (inb) (hs) (f : S4x170000x128.Idx → F .f32) (p : (⟨2, ![n, 128]⟩ : Shape).Idx → F .f32)
    (g : S4x170000x128.Idx → F .f32) (h : ∀ x, p x = g ((oBlk n off inb hs).view.emb x)) (y : S4x170000x128.Idx)
    (hy : y ∈ (oBlk n off inb hs).view.set) : (oBlk n off inb hs).view.write (Elt F) f p Finset.univ y = g y := by
  obtain ⟨x, -, rfl⟩ := Finset.mem_map.mp hy
  exact (View.write_emb_of_mem (v := (oBlk n off inb hs).view) (Val := Elt F) f p (Finset.mem_univ x)).trans (h x)

/-- A vertex block's set. -/
theorem mem_cpBlk (q : ℕ) {off : Fin 3 → ℕ} (e : off = ![q / 125, q % 125 * 80, 0]) (inb) (hs) (y : S4x170000x128.Idx) :
    y ∈ (oBlk 80 off inb hs).view.set ↔ (y 1).val < 10000 ∧ cpOf y = q := by
  rw [oBlk_set]; subst e
  have h0 : (y 0).val < 4 := (y 0).isLt
  have h1 : (y 1).val < 170000 := (y 1).isLt
  have h2 : (y 2).val < 128 := (y 2).isLt
  show (y 0).val = q / 125 ∧ q % 125 * 80 ≤ (y 1).val ∧ (y 1).val < q % 125 * 80 + 80 ∧ 0 ≤ (y 2).val ∧ (y 2).val < 0 + 128 ↔ _
  unfold cpOf; omega

/-- An edge chunk's set in batch `b`. -/
theorem mem_chBlk (b c : ℕ) {off : Fin 3 → ℕ} (e : off = ![b, 10000 + 128 * c, 0]) (inb) (hs) (y : S4x170000x128.Idx) :
    y ∈ (oBlk 128 off inb hs).view.set ↔ 10000 ≤ (y 1).val ∧ chOf y = c ∧ (y 0).val = b := by
  rw [oBlk_set]; subst e
  have h0 : (y 0).val < 4 := (y 0).isLt
  have h1 : (y 1).val < 170000 := (y 1).isLt
  have h2 : (y 2).val < 128 := (y 2).isLt
  show (y 0).val = b ∧ 10000 + 128 * c ≤ (y 1).val ∧ (y 1).val < 10000 + 128 * c + 128 ∧ 0 ≤ (y 2).val ∧ (y 2).val < 0 + 128 ↔ _
  unfold chOf; omega

end Cert.Proof.KI

end
-- ==== Proof.KI.Out.lean ====
/-
  The worker's rows of the output as the loops hold them: contents that have the value on the positions already written.
  A block is split off for its transfer and joined back with the value on it.
-/
module

public import proofs.«01_k».proof.Proof.KI.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2 eq_ix3)

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

variable [FloatOps F]

section
variable (d : Dev nD) (L : grid0.Coords)
variable (fT : Buf (Elt F) ((tV).view.loc (thr d L))) (f0 : Buf (Elt F) ((iV).view.loc (thr d L))) (f1 : Buf (Elt F) ((jV).view.loc (thr d L)))
variable (O : CellTallies nD τ sig (HIx 1)) (W : Waits sig (HIx 1))

/-- The worker's rows of the output, at contents that have the value on the positions `done`. -/
def outAt (done : S4x170000x128.Idx → Prop) : sProp 𝕄 :=
  iprop(∃ f : Buf (Elt F) ((oV).view.loc (thr d L)), ⌜∀ y : S4x170000x128.Idx, done y → f y = G fT f0 f1 y⌝
    ∗ (oV).view.loc (thr d L) ↦[outSet (wid L)]{fullShare} f)

/-- The tile's tally of what it owes, with waits at index `none` recorded beyond `W`. -/
def owing : sProp 𝕄 :=
  iprop(∃ W', ⌜∀ p ∈ W', p ∈ W ∨ p.2 = none⌝ ∗ owes (thr d L) O W')

omit [FloatOps F] in
/-- The tally after waits at index `none`. -/
theorem owing_of {W' : Waits sig (HIx 1)} (h : ∀ p ∈ W', p ∈ W ∨ p.2 = none) : (owes (thr d L) O W' : sProp 𝕄) ⊢ owing d L O W := by
  unfold owing
  iintro HO
  iexists W'
  isplitr
  · ipureintro; exact h
  · iexact HO

omit [FloatOps F] in
/-- One more wait at index `none`. -/
theorem waits_insert {W W' : Waits sig (HIx 1)} (h : ∀ p ∈ W', p ∈ W ∨ p.2 = none) (s : SemLoc sig) :
    ∀ p ∈ insert (s, (default : HIx 1)) W', p ∈ W ∨ p.2 = none := fun p hp =>
  (Finset.mem_insert.mp hp).elim (fun e => .inr (e ▸ rfl)) (h p)

variable {n : ℕ} {off : Fin 3 → ℕ} (inb : ∀ a, off a + (⟨3, ![1, n, 128]⟩ : Shape).size a ≤ S4x170000x128.size a)
  (hs : (⟨3, ![1, n, 128]⟩ : Shape).Squeezes ⟨2, ![n, 128]⟩)

omit [FloatOps F] in
/-- A block of the worker's rows split off, as the program addresses it. -/
theorem out_split (hsub : (oBlk n off inb hs).view.set ⊆ outSet (wid L)) (f : Buf (Elt F) ((oV).view.loc (thr d L))) :
    ((oV).view.loc (thr d L) ↦[outSet (wid L)]{fullShare} f : sProp 𝕄)
      ⊢ iprop(((oBlk n off inb hs).view.loc (thr d L) ↦[(oBlk n off inb hs).view.set]{fullShare} f)
        ∗ (oV).view.loc (thr d L) ↦[outSet (wid L) \ (oBlk n off inb hs).view.set]{fullShare} f) :=
  (pointsTo_split_subset hsub).1

/-- The block joined back with the value on it. -/
theorem out_join (hsub : (oBlk n off inb hs).view.set ⊆ outSet (wid L)) (f f' : S4x170000x128.Idx → F .f32)
    (done done' : S4x170000x128.Idx → Prop) (hf : ∀ y, done y → f y = G fT f0 f1 y)
    (hf' : ∀ (r : Fin n) (l : Fin 128), (oBlk n off inb hs).view.read (Elt F) f' (ix2 r l) = G fT f0 f1 ((oBlk n off inb hs).view.emb (ix2 r l)))
    (hd : ∀ y : S4x170000x128.Idx, done' y → done y ∨ y ∈ (oBlk n off inb hs).view.set) :
    iprop(((oBlk n off inb hs).view.loc (thr d L) ↦[(oBlk n off inb hs).view.set]{fullShare} f')
        ∗ (oV).view.loc (thr d L) ↦[outSet (wid L) \ (oBlk n off inb hs).view.set]{fullShare} f : sProp 𝕄)
      ⊢ outAt d L fT f0 f1 done' := by
  unfold outAt
  iintro ⟨Hp, Hr⟩
  iexists ((oBlk n off inb hs).view.set.piecewise f' f)
  isplitr
  · ipureintro
    intro y hy
    by_cases hm : y ∈ (oBlk n off inb hs).view.set
    · rw [Finset.piecewise_eq_of_mem _ _ _ hm]
      obtain ⟨x, -, rfl⟩ := Finset.mem_map.mp hm
      have e := eq_ix2 x
      rw [e]
      exact hf' _ _
    · rw [Finset.piecewise_eq_of_notMem _ _ _ hm]
      exact hf y ((hd y hy).resolve_right hm)
  · iapply (pointsTo_join_subset (ℓ := (oV).view.loc (thr d L)) hsub)
    isplitl [Hp]
    · iexact Hp
    · iexact Hr
end

end Cert.Proof.KI

end
-- ==== Proof.KI.Copy.lean ====
/-
  The copy loop: worker `w` copies its share of the 500 blocks of 80 vertex rows from the table to the output, through a
  local buffer.
-/
module

public import proofs.«01_k».proof.Proof.KI.Out

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2 eq_ix3)

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

variable [FloatOps F]

section
variable (d : Dev nD) (L : grid0.Coords) (q : PosShare TreeShare)
variable (fT : Buf (Elt F) ((tV).view.loc (thr d L))) (f0 : Buf (Elt F) ((iV).view.loc (thr d L))) (f1 : Buf (Elt F) ((jV).view.loc (thr d L)))
variable (O : CellTallies nD τ sig (HIx 1)) (W : Waits sig (HIx 1))

/-- A vertex row of the output is the table's row. -/
theorem G_vertex (t : ℕ) {off : Fin 3 → ℕ} (e : off = ![t / 125, t % 125 * 80, 0]) (inb) (hs) (ht : t < 500) (r : Fin 80) (l : Fin 128)
    (x : S40000x128.Idx) (h0 : (x 0).val = 80 * t + r.val) (h1 : (x 1).val = l.val) :
    G (fT : S40000x128.Idx → F .f32) f0 f1 ((oBlk 80 off inb hs).view.emb (ix2 r l)) = fT x := by
  have e0 := oBlk_emb inb hs r l 0
  have e1 := oBlk_emb inb hs r l 1
  have e2 := oBlk_emb inb hs r l 2
  generalize hz : ((oBlk 80 off inb hs).view.emb (ix2 r l) : S4x170000x128.Idx) = z at *
  subst e
  replace e0 : (z 0).val = t / 125 + 0 := e0
  replace e1 : (z 1).val = t % 125 * 80 + r.val := e1
  replace e2 : (z 2).val = 0 + l.val := e2
  have hr := r.isLt
  unfold G
  rw [if_pos (by omega), eq_ix2 x]
  have a0 : tRow (z 0).val (z 1).val = x 0 := Fin.ext (by
    show ((z 0).val * 10000 + (z 1).val) % 40000 = (x 0).val
    rw [e0, e1, h0]; omega)
  have a1 : (z 2 : Fin 128) = x 1 := Fin.ext (by rw [e2, h1, Nat.zero_add])
  rw [a0, a1]
  rfl

/-- Before trip `k` of the copy loop the first `k` blocks are copied. -/
def cpInv (k : ℕ) (_ : Unit) : sProp 𝕄 :=
  iprop(Transfers.MayWaits (thr d L) (none : HIx 1) O
    ∗ ((tV).view.loc (thr d L) ↦{q} fT)
    ∗ (∃ fc, (cV).view.loc (thr d L) ↦{fullShare} fc)
    ∗ semVal (thr d L, SemLoc.dma cc0_scoped0.sem) 0 ∗ semVal (thr d L, SemLoc.dma cc0_scoped1.sem) 0
    ∗ outAt d L fT f0 f1 (cpDone (wid L) k)
    ∗ owing d L O W)

/-- A trip of the copy loop copies its block. -/
theorem cpTrip (v7 : BitVec 32) (k : Fin (k0_t1_loop L).trips) :
    cpInv d L q fT f0 f1 O W k.val ()
      ⊢ wp frame (wpE (defs₀ (F := F)) 𝒱₀ (thr d L) none) Set.univ
          (k0_t1_body (F := F) L tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 v7 k ())
          (cpInv d L q fT f0 f1 O W (k.val + 1)) := by
  have hk : k.val < cpCnt (wid L) := lt_of_lt_of_eq k.isLt (t1_trips L)
  have hw := wid_lt L
  have hq : cpLo (wid L) + k.val < 500 := by
    unfold cpCnt at hk; unfold cpLo; split at hk <;> omega
  have hsub : (oBlk 80 (k0_off2 L k) (k0_off2_inb L k) squeezes_S1x80x128_S80x128).view.set ⊆ outSet (wid L) := by
    intro y hy
    obtain ⟨h1, h2⟩ := (mem_cpBlk (cpLo (wid L) + k.val) (off2_eq L k) _ _ y).mp hy
    exact mem_outSet.mpr (.inl ⟨h1, by omega, by omega⟩)
  unfold cpInv k0_t1_body
  rw [outAt, owing]
  iintro ⟨Hmw, Ht, ⟨%fc, Hc⟩, Hs0, Hs1, ⟨%f, %hf, Ho⟩, %W', %hW', HO⟩
  ihave Ho' := (out_split d L (k0_off2_inb L k) squeezes_S1x80x128_S80x128 hsub f) $$ Ho
  icases Ho' with ⟨Hp, Hrest⟩
  sl_exec
  sl_step
  isplitl [Hmw]; · iexact Hmw
  isplitl [Ht]; · iexact Ht
  isplitl [Hc]; · iexists _; iexact Hc
  isplitl [Hs0]; · iexact Hs0
  isplitl [Hs1]; · iexact Hs1
  isplitl [Hp Hrest]
  · iapply (out_join d L fT f0 f1 (k0_off2_inb L k) squeezes_S1x80x128_S80x128 hsub f _ (cpDone (wid L) k.val) _ hf ?_ ?_)
    rotate_left 2
    · isplitl [Hp]
      · iexact Hp
      · iexact Hrest
    · intro r l
      rw [View.read_writes_whole]
      refine Eq.trans ?_ (G_vertex d L fT f0 f1 _ (off2_eq L k) _ _ hq r l
        ((Rect.unit (s := S40000x128) (k0_off1 L k) S80x128.size (k0_off1_inb L k)).emb (ix2 r l)) ?_ ?_).symm
      · show (cV).view.read (Elt F) ((cV).view.write (Elt F) fc (_ : S80x128.Idx → F .f32) Finset.univ) (ix2 r l) = _
        rw [View.read_write_univ]
        rfl
      · show k0_off1 L k 0 + 1 * r.val = _
        rw [off1_eq L k, Nat.one_mul]; rfl
      · show k0_off1 L k 1 + 1 * l.val = _
        rw [off1_eq L k, Nat.one_mul]; exact Nat.zero_add _
    · rintro y ⟨h1, h2, h3⟩
      rcases Nat.lt_or_ge (cpOf y) (cpLo (wid L) + k.val) with h | h
      · exact .inl ⟨h1, h2, h⟩
      · exact .inr ((mem_cpBlk (cpLo (wid L) + k.val) (off2_eq L k) _ _ y).mpr ⟨h1, by omega⟩)
  · rw [← owing]; iapply (owing_of d L O W (waits_insert (waits_insert hW' _) _)); iexact HO
end

end Cert.Proof.KI

end
-- ==== Proof.KI.Batch.lean ====
/-
  The chunk loop's region as four runs of one program: a batch's row numbers from the chunk's indices, the two gathers,
  the averaging loop, the write of the chunk's rows.
-/
module

public import proofs.«01_k».proof.Proof.KI.Out

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2 eq_ix3)

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

variable [FloatOps F]

/-- Programs of a tile. -/
abbrev TileProg (F : FTy → Type) (L : grid0.Coords) (α : Type) : Type 1 :=
  Prog (TpuEff nD τ sig (Elt F) Λ₀ (.scVector ((L 0).castLE hcore0) ((L 1).castLE hsub0))) α

/-- Sixteen indices turned to row numbers: the batch's first row added. -/
def rowNos (c : BitVec 32) (v : Vec F S16 .i32) : IVec S16 32 :=
  shapeCast S16 (addi (shapeCast S16 v shapeCasts_S16_S16) (broadcast S16 c)) shapeCasts_S16_S16

omit [FloatOps F] in
theorem rowNos_apply (c : BitVec 32) (v : Vec F S16 .i32) (x : S16.Idx) : rowNos (F := F) c v x = v x + c := by
  unfold rowNos
  rw [shapeCast_self, shapeCast_self]
  rfl

/-- Sixteen row numbers of each list, from position `o`. -/
def lanes (L : grid0.Coords) (c : BitVec 32) (o : ℕ) (inb : ∀ a, (![o] : Fin 1 → ℕ) a + S16.size a ≤ S128.size a) : TileProg F L Unit := do
  let v : Vec F S16 .i32 ← Prog.lift (.load x0V (Rect.unit (s := S128) ![o] S16.size inb).toLoadRect (View.loadsAt_vmem h_S16))
  let _v : Vec F S16 .i32 ← Prog.lift (.load l0V (Rect.unit (s := S128) ![o] S16.size inb).toLoadRect (View.loadsAt_vmem h_S16))
  Prog.lift (.store l0V (Rect.unit (s := S128) ![o] S16.size inb) (rowNos (F := F) c v) Finset.univ (View.stores_vmem_bits_univ h_S16 rfl) (.inl rfl))
  let u : Vec F S16 .i32 ← Prog.lift (.load x1V (Rect.unit (s := S128) ![o] S16.size inb).toLoadRect (View.loadsAt_vmem h_S16))
  let _u : Vec F S16 .i32 ← Prog.lift (.load l1V (Rect.unit (s := S128) ![o] S16.size inb).toLoadRect (View.loadsAt_vmem h_S16))
  Prog.lift (.store l1V (Rect.unit (s := S128) ![o] S16.size inb) (rowNos (F := F) c u) Finset.univ (View.stores_vmem_bits_univ h_S16 rfl) (.inl rfl))

/-- The table as the gathers address it. -/
abbrev tS : Memref Cert.KernelIdeal.sig Kind.scVector Space.hbm S40000x128 EltTy.f32 :=
  (tV).slice (Rect.unit (s := S40000x128) ![0, 0] S40000x128.size inb_S40000x128_S40000x128_0_0) (fun _ => rfl)

/-- A batch of a chunk: `c` the batch's first row of the table, `off` where its rows of the output begin. -/
def batch (L : grid0.Coords) (c : BitVec 32) (off : Fin 3 → ℕ) (inb : ∀ a, off a + S1x128x128.size a ≤ S4x170000x128.size a)
    (s : DmaSems sig S_) : TileProg F L Unit := do
  lanes L c 0 inb_S128_S16_0
  lanes L c 16 inb_S128_S16_16
  lanes L c 32 inb_S128_S16_32
  lanes L c 48 inb_S128_S16_48
  lanes L c 64 inb_S128_S16_64
  lanes L c 80 inb_S128_S16_80
  lanes L c 96 inb_S128_S16_96
  lanes L c 112 inb_S128_S16_112
  SparseCore.enqueueIndirectGather rfl tS aV gathers_S40000x128_S128x128 l0V rfl cc0_scratch8.sem (View.wordExact_bits rfl) rfl (Or.inl rfl)
  SparseCore.enqueueIndirectGather rfl tS bV gathers_S40000x128_S128x128 l1V rfl cc0_scratch9.sem (View.wordExact_bits rfl) rfl (Or.inl rfl)
  SparseCore.waitIndirectGather cc0_scratch8.sem tS aV (View.wordExact_bits rfl) (Memref.isWhole_whole _).wordExact
  SparseCore.waitIndirectGather cc0_scratch9.sem tS bV (View.wordExact_bits rfl) (Memref.isWhole_whole _).wordExact
  Scf.Loop.for k0_t7_loop k0_t7_ok ⟨⟩ (k0_t7_body (F := F) L tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15)
  Prog.lift (.enqueueDma rV (.here (((oV).slice (Rect.unit (s := S4x170000x128) off S1x128x128.size inb) (fun _ => rfl)).squeeze S128x128 squeezes_S1x128x128_S128x128))
    (.dma s.sem) (Memref.isWhole_whole _).wordExact ((View.wordExact_bits rfl).reshape _ _) ⟨Or.inl rfl, trivial⟩)
  Prog.lift (.waitDma2 s.sem rV (((oV).slice (Rect.unit (s := S4x170000x128) off S1x128x128.size inb) (fun _ => rfl)).squeeze S128x128 squeezes_S1x128x128_S128x128)
    (Memref.isWhole_whole _).wordExact ((View.wordExact_bits rfl).reshape _ _))

/-- The chunk's two index lists read in. -/
def indices (L : grid0.Coords) (k : Fin (k0_t3_loop L).trips) : TileProg F L Unit := do
  Prog.lift (.enqueueDma ((iV).slice (Rect.unit (s := S160000) (k0_off5 L k) S128.size (k0_off5_inb L k)) (fun _ => rfl)) (.here x0V) (.dma cc0_scoped4.sem)
    (View.wordExact_bits rfl) (Memref.isWhole_whole _).wordExact ⟨Or.inl rfl, trivial⟩)
  Prog.lift (.waitDma2 cc0_scoped4.sem ((iV).slice (Rect.unit (s := S160000) (k0_off5 L k) S128.size (k0_off5_inb L k)) (fun _ => rfl)) x0V
    (View.wordExact_bits rfl) (Memref.isWhole_whole _).wordExact)
  Prog.lift (.enqueueDma ((jV).slice (Rect.unit (s := S160000) (k0_off5 L k) S128.size (k0_off5_inb L k)) (fun _ => rfl)) (.here x1V) (.dma cc0_scoped5.sem)
    (View.wordExact_bits rfl) (Memref.isWhole_whole _).wordExact ⟨Or.inl rfl, trivial⟩)
  Prog.lift (.waitDma2 cc0_scoped5.sem ((jV).slice (Rect.unit (s := S160000) (k0_off5 L k) S128.size (k0_off5_inb L k)) (fun _ => rfl)) x1V
    (View.wordExact_bits rfl) (Memref.isWhole_whole _).wordExact)

set_option maxRecDepth 20000 in
/-- The region of the chunk loop is the index reads and four batches. -/
theorem chunk_eq (L : grid0.Coords) (v18 : BitVec 32) (k : Fin (k0_t3_loop L).trips) :
    k0_t3_body (F := F) L tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 v18 k ()
      = (do
          indices L k
          batch L 0#32 (k0_off14 L k) (k0_off14_inb L k) cc0_scoped6
          batch L 10000#32 (k0_off23 L k) (k0_off23_inb L k) cc0_scoped7
          batch L 20000#32 (k0_off32 L k) (k0_off32_inb L k) cc0_scoped8
          batch L 30000#32 (k0_off41 L k) (k0_off41_inb L k) cc0_scoped9) := by
  unfold k0_t3_body batch indices lanes
  simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, bind_assoc, pure_bind]
  rfl

end Cert.Proof.KI

end
-- ==== Proof.KI.BatchRun.lean ====
/-
  A batch of a chunk, run: the lists of row numbers, the gathers, the averaging loop, and the chunk's rows of the output.
-/
module

public import proofs.«01_k».proof.Proof.KI.Batch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2 eq_ix3)

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

/-! ## The lists -/

/-- The indices of chunk `c`. -/
def chunkOf (f : S160000.Idx → BitVec 32) (c : ℕ) (x : S128.Idx) : BitVec 32 :=
  f (ix1 ⟨(128 * c + (x 0).val) % 160000, Nat.mod_lt _ (by decide)⟩)

/-- The row numbers of chunk `c` in the batch whose first row is `n`. -/
def rowList (f : S160000.Idx → BitVec 32) (c n : ℕ) (x : S128.Idx) : BitVec 32 := chunkOf f c x + BitVec.ofNat 32 n

theorem chunkOf_lt {f : S160000.Idx → BitVec 32} (hf : ∀ e, (f e).toNat < 10000) (c : ℕ) (x : S128.Idx) : (chunkOf f c x).toNat < 10000 := hf _

theorem rowList_toNat {f : S160000.Idx → BitVec 32} (hf : ∀ e, (f e).toNat < 10000) (c : ℕ) {b : ℕ} (hb : b < 4) (x : S128.Idx) :
    (rowList f c (b * 10000) x).toNat = b * 10000 + (chunkOf f c x).toNat := by
  have h := chunkOf_lt hf c x
  unfold rowList
  rw [BitVec.toNat_add, BitVec.toNat_ofNat]
  omega

/-! ## The gathered rows -/

/-- What a gather leaves: row `r` is the table's row named by index `r` of the chunk, in batch `b`. -/
def gath (fT : S40000x128.Idx → F .f32) (f : S160000.Idx → BitVec 32) (c b : ℕ) (y : S128x128.Idx) : F .f32 :=
  fT (ix2 (tRow b (chunkOf f c (ix1 (y 0))).toNat) (y 1))

/-- Entry `k` of a list of 128, in row-major order, is its index `k`. -/
theorem entry_eq (k : Fin S128.numel) : S128.rowMajor.symm k = ix1 (⟨k.val, lt_of_lt_of_eq k.isLt (by decide)⟩ : Fin 128) := by
  refine (Equiv.symm_apply_eq _).mpr ?_
  exact Fin.ext (Shape.rowMajor_val_one (d := ![128]) (ix1 (⟨k.val, lt_of_lt_of_eq k.isLt (by decide)⟩ : Fin 128))).symm

/-- The gather over a chunk's row numbers. -/
theorem gather_apply {f : S160000.Idx → BitVec 32} (hf : ∀ e, (f e).toNat < 10000) (c : ℕ) {b : ℕ} (hb : b < 4) (fT : S40000x128.Idx → F .f32)
    (l : View Cert.KernelIdeal.sig .scVector .vmem S128 .i32) (g : l.ty.Contents (Elt F)) (hg : l.read (Elt F) g = rowList f c (b * 10000))
    (hn : S128.numel = S128x128.size gathers_S40000x128_S128x128.axis')
    (hin : ∀ x, (l.read (Elt F) g x).toNat < S40000x128.size gathers_S40000x128_S128x128.axis) (y : S128x128.Idx) :
    SparseCore.gatherPayload (F := F) (e := .f32) gathers_S40000x128_S128x128 ((tS).view.read (Elt F) fT) (SparseCore.rows (l.read (Elt F) g) hn hin) y
      = gath fT f c b y := by
  show fT _ = fT _
  refine congrArg fT ?_
  funext a
  refine Fin.ext ?_
  match a with
  | ⟨0, _⟩ =>
    have e := congrArg Fin.val (Shape.Gathers.idx_axis gathers_S40000x128_S128x128 (SparseCore.rows (l.read (Elt F) g) hn hin) y)
    have e1 : (SparseCore.rows (l.read (Elt F) g) hn hin (y gathers_S40000x128_S128x128.axis')).val = (rowList f c (b * 10000) (ix1 (y 0))).toNat := by
      show (l.read (Elt F) g _).toNat = _
      rw [hg, entry_eq]
      rfl
    have e2 := rowList_toNat hf c hb (ix1 (y 0))
    have e3 := chunkOf_lt hf c (ix1 (y 0))
    show 0 + 1 * _ = (b * 10000 + (chunkOf f c (ix1 (y 0))).toNat) % 40000
    rw [Nat.zero_add, Nat.one_mul]
    refine e.trans (e1.trans ?_)
    rw [e2]; omega
  | ⟨1, _⟩ =>
    have e := Shape.Gathers.idx_of_ne gathers_S40000x128_S128x128 (SparseCore.rows (l.read (Elt F) g) hn hin) y 1 (by decide)
    show 0 + 1 * _ = (y 1).val
    rw [Nat.zero_add, Nat.one_mul]
    exact e

/-- Eight stores of sixteen lanes fill a list. -/
theorem writes_list (v : View Cert.KernelIdeal.sig .scVector .vmem S128 .i32) (f : v.ty.Contents (Elt F)) (g : S128.Idx → BitVec 32)
    (p0 p1 p2 p3 p4 p5 p6 p7 : S16.Idx → BitVec 32)
    (h0 : ∀ x, p0 x = g ((Rect.unit (s := S128) ![0] S16.size inb_S128_S16_0).emb x))
    (h1 : ∀ x, p1 x = g ((Rect.unit (s := S128) ![16] S16.size inb_S128_S16_16).emb x))
    (h2 : ∀ x, p2 x = g ((Rect.unit (s := S128) ![32] S16.size inb_S128_S16_32).emb x))
    (h3 : ∀ x, p3 x = g ((Rect.unit (s := S128) ![48] S16.size inb_S128_S16_48).emb x))
    (h4 : ∀ x, p4 x = g ((Rect.unit (s := S128) ![64] S16.size inb_S128_S16_64).emb x))
    (h5 : ∀ x, p5 x = g ((Rect.unit (s := S128) ![80] S16.size inb_S128_S16_80).emb x))
    (h6 : ∀ x, p6 x = g ((Rect.unit (s := S128) ![96] S16.size inb_S128_S16_96).emb x))
    (h7 : ∀ x, p7 x = g ((Rect.unit (s := S128) ![112] S16.size inb_S128_S16_112).emb x)) :
    v.read (Elt F) (v.writes (Elt F) f
      [⟨Rect.unit (s := S128) ![112] S16.size inb_S128_S16_112, p7⟩, ⟨Rect.unit (s := S128) ![96] S16.size inb_S128_S16_96, p6⟩,
       ⟨Rect.unit (s := S128) ![80] S16.size inb_S128_S16_80, p5⟩, ⟨Rect.unit (s := S128) ![64] S16.size inb_S128_S16_64, p4⟩,
       ⟨Rect.unit (s := S128) ![48] S16.size inb_S128_S16_48, p3⟩, ⟨Rect.unit (s := S128) ![32] S16.size inb_S128_S16_32, p2⟩,
       ⟨Rect.unit (s := S128) ![16] S16.size inb_S128_S16_16, p1⟩, ⟨Rect.unit (s := S128) ![0] S16.size inb_S128_S16_0, p0⟩]) = g := by
  funext y
  refine writes_row v f g _ y ?_ ?_
  · simp only [List.forall_mem_cons, List.not_mem_nil, IsEmpty.forall_iff, implies_true, and_true]
    exact ⟨h7, h6, h5, h4, h3, h2, h1, h0⟩
  · intro hn
    have hm (o : ℕ) (inb : ∀ a, (![o] : Fin 1 → ℕ) a + S16.size a ≤ S128.size a) (h : y ∉ (Rect.unit (s := S128) ![o] S16.size inb).set) :
        ¬ (o ≤ (y 0).val ∧ (y 0).val < o + 16) := fun hy => h (Rect.mem_set_unit.mpr fun a => match a with | ⟨0, _⟩ => hy)
    simp only [List.forall_mem_cons] at hn
    obtain ⟨n7, n6, n5, n4, n3, n2, n1, n0, -⟩ := hn
    have hy : (y 0).val < 128 := (y 0).isLt
    have m0 := hm 0 _ n0; have m1 := hm 16 _ n1; have m2 := hm 32 _ n2; have m3 := hm 48 _ n3
    have m4 := hm 64 _ n4; have m5 := hm 80 _ n5; have m6 := hm 96 _ n6; have m7 := hm 112 _ n7
    omega

variable [FloatOps F]

section
variable (d : Dev nD) (L : grid0.Coords) (q : PosShare TreeShare)
variable (fT : Buf (Elt F) ((tV).view.loc (thr d L))) (f0 : Buf (Elt F) ((iV).view.loc (thr d L))) (f1 : Buf (Elt F) ((jV).view.loc (thr d L)))
variable (O : CellTallies nD τ sig (HIx 1)) (W : Waits sig (HIx 1))

/-- The positions written once `k` chunks are done and, of the next, the batches below `b`. -/
def chPart (w k b : ℕ) (y : S4x170000x128.Idx) : Prop :=
  cpDone w (cpCnt w) y ∨ chDone w k y ∨ (10000 ≤ (y 1).val ∧ chOf y = chLo w + k ∧ (y 0).val < b)

/-- Before batch `b` of chunk `k`: its index lists are read, and the batches below `b` are written. -/
def batchInv (k b : ℕ) : sProp 𝕄 :=
  iprop(Transfers.MayWaits (thr d L) (none : HIx 1) O
    ∗ ((tV).view.loc (thr d L) ↦{q.left} fT) ∗ ((tV).view.loc (thr d L) ↦{q.right} fT)
    ∗ ((x0V).view.loc (thr d L) ↦{fullShare} chunkOf f0 (chLo (wid L) + k)) ∗ ((x1V).view.loc (thr d L) ↦{fullShare} chunkOf f1 (chLo (wid L) + k))
    ∗ (∃ f, (l0V).view.loc (thr d L) ↦{fullShare} f) ∗ (∃ f, (l1V).view.loc (thr d L) ↦{fullShare} f)
    ∗ (∃ f, (aV).view.loc (thr d L) ↦{fullShare} f) ∗ (∃ f, (bV).view.loc (thr d L) ↦{fullShare} f)
    ∗ (∃ f, (rV).view.loc (thr d L) ↦{fullShare} f)
    ∗ semVal (thr d L, SemLoc.dma cc0_scratch8.sem) 0 ∗ semVal (thr d L, SemLoc.dma cc0_scratch9.sem) 0
    ∗ outAt d L fT f0 f1 (chPart (wid L) k b)
    ∗ owing d L O W)

/-- An edge row of the output is half the sum of the two gathered rows. -/
theorem G_edge {b c : ℕ} (hc : c < 1250) {off : Fin 3 → ℕ} (e : off = ![b, 10000 + 128 * c, 0]) (inb) (hs) (r l : Fin 128) :
    G (fT : S40000x128.Idx → F .f32) f0 f1 ((oBlk 128 off inb hs).view.emb (ix2 r l)) = avg (gath fT f0 c b (ix2 r l)) (gath fT f1 c b (ix2 r l)) := by
  have e0 := oBlk_emb inb hs r l 0
  have e1 := oBlk_emb inb hs r l 1
  have e2 := oBlk_emb inb hs r l 2
  generalize hz : ((oBlk 128 off inb hs).view.emb (ix2 r l) : S4x170000x128.Idx) = z at *
  subst e
  replace e0 : (z 0).val = b + 0 := e0
  replace e1 : (z 1).val = 10000 + 128 * c + r.val := e1
  replace e2 : (z 2).val = 0 + l.val := e2
  have hr := r.isLt
  unfold G
  rw [if_neg (by omega)]
  have a0 : edge z = ix1 (⟨(128 * c + r.val) % 160000, Nat.mod_lt _ (by decide)⟩ : Fin 160000) := by
    have h : ((z 1).val - 10000) % 160000 = (128 * c + r.val) % 160000 := by rw [e1]; omega
    exact congrArg ix1 (Fin.ext h)
  have a1 : (z 2 : Fin 128) = l := Fin.ext (by rw [e2, Nat.zero_add])
  have a2 : (z 0).val = b := e0
  rw [a0, a1, a2]
  rfl

omit [FloatOps F] in
/-- Contents under another name. -/
theorem pts_eq {ℓ : Loc nD τ sig} {f g : Buf (Elt F) ℓ} (h : f = g) : (ℓ ↦{fullShare} f : sProp 𝕄) ⊢ ℓ ↦{fullShare} g := Entails.of_eq (by rw [h])

set_option maxHeartbeats 1000000 in
/-- A batch of chunk `k`: its rows are gathered, averaged and written. -/
theorem batch_run (h0 : ∀ e, (f0 e).toNat < 10000) (h1 : ∀ e, (f1 e).toNat < 10000) (k : ℕ) (hk : k < chCnt (wid L)) (b : ℕ) (hb : b < 4)
    (off : Fin 3 → ℕ) (hoff : off = ![b, 10000 + 128 * (chLo (wid L) + k), 0]) (inb : ∀ a, off a + S1x128x128.size a ≤ S4x170000x128.size a)
    (s : DmaSems sig S_) :
    iprop(semVal (thr d L, SemLoc.dma s.sem) 0 ∗ batchInv d L q fT f0 f1 O W k b)
      ⊢ wp frame (wpE (defs₀ (F := F)) 𝒱₀ (thr d L) none) Set.univ (batch L (BitVec.ofNat 32 (b * 10000)) off inb s)
          (fun _ => iprop(semVal (thr d L, SemLoc.dma s.sem) 0 ∗ batchInv d L q fT f0 f1 O W k (b + 1))) := by
  have hsub : (oBlk 128 off inb squeezes_S1x128x128_S128x128).view.set ⊆ outSet (wid L) := by
    intro y hy
    obtain ⟨a1, a2, a3⟩ := (mem_chBlk b (chLo (wid L) + k) hoff _ _ y).mp hy
    exact mem_outSet.mpr (.inr ⟨a1, by omega, by omega⟩)
  have hw := wid_lt L
  have hc : chLo (wid L) + k < 1250 := by
    unfold chCnt at hk; unfold chLo; split at hk <;> omega
  unfold batchInv batch lanes
  rw [outAt, owing]
  iintro ⟨Hs, Hmw, Ht, Ht', Hx0, Hx1, ⟨%fl0, Hl0⟩, ⟨%fl1, Hl1⟩, ⟨%fa, Ha⟩, ⟨%fb, Hb⟩, ⟨%fr, Hr⟩, Hg0, Hg1, ⟨%f, %hf, Ho⟩, %W', %hW', HO⟩
  ihave Ho' := (out_split d L inb squeezes_S1x128x128_S128x128 hsub f) $$ Ho
  icases Ho' with ⟨Hp, Hrest⟩
  sl_exec
  have hP0 (o : ℕ) (inb : ∀ a, (![o] : Fin 1 → ℕ) a + S16.size a ≤ S128.size a) (x : S16.Idx) :
      rowNos (F := F) (BitVec.ofNat 32 (b * 10000)) ((x0V).view.readAt (Elt F) (Rect.unit (s := S128) ![o] S16.size inb).toLoadRect
        (chunkOf f0 (chLo (wid L) + k))) x = rowList f0 (chLo (wid L) + k) (b * 10000) ((Rect.unit (s := S128) ![o] S16.size inb).emb x) :=
    rowNos_apply _ _ x
  have hP1 (o : ℕ) (inb : ∀ a, (![o] : Fin 1 → ℕ) a + S16.size a ≤ S128.size a) (x : S16.Idx) :
      rowNos (F := F) (BitVec.ofNat 32 (b * 10000)) ((x1V).view.readAt (Elt F) (Rect.unit (s := S128) ![o] S16.size inb).toLoadRect
        (chunkOf f1 (chLo (wid L) + k))) x = rowList f1 (chLo (wid L) + k) (b * 10000) ((Rect.unit (s := S128) ![o] S16.size inb).emb x) :=
    rowNos_apply _ _ x
  have hl0 (f) := writes_list (F := F) (l0V).view f (rowList f0 (chLo (wid L) + k) (b * 10000)) _ _ _ _ _ _ _ _ (hP0 0 inb_S128_S16_0) (hP0 16 inb_S128_S16_16) (hP0 32 inb_S128_S16_32)
    (hP0 48 inb_S128_S16_48) (hP0 64 inb_S128_S16_64) (hP0 80 inb_S128_S16_80) (hP0 96 inb_S128_S16_96) (hP0 112 inb_S128_S16_112)
  have hl1 (f) := writes_list (F := F) (l1V).view f (rowList f1 (chLo (wid L) + k) (b * 10000)) _ _ _ _ _ _ _ _ (hP1 0 inb_S128_S16_0) (hP1 16 inb_S128_S16_16) (hP1 32 inb_S128_S16_32)
    (hP1 48 inb_S128_S16_48) (hP1 64 inb_S128_S16_64) (hP1 80 inb_S128_S16_80) (hP1 96 inb_S128_S16_96) (hP1 112 inb_S128_S16_112)
  have el0 : (l0V).view.writes (Elt F) (l0V).view.junk (batch_run.sl.Hl0_8 d L f0 k b) = rowList f0 (chLo (wid L) + k) (b * 10000) := hl0 _
  ihave Hl0' := (pts_eq (ℓ := (l0V).view.loc (thr d L)) el0) $$ Hl0
  have el1 : (l1V).view.writes (Elt F) fl1 _ = rowList f1 (chLo (wid L) + k) (b * 10000) := hl1 _
  ihave Hl1' := (pts_eq (ℓ := (l1V).view.loc (thr d L)) el1) $$ Hl1
  have hin (f : S160000.Idx → BitVec 32) (hf : ∀ e, (f e).toNat < 10000) (x : S128.Idx) : (rowList f (chLo (wid L) + k) (b * 10000) x).toNat < 40000 := by
    have := chunkOf_lt hf (chLo (wid L) + k) x
    rw [rowList_toNat hf _ hb]; omega
  have hin0 : ∀ x, ((l0V).view.read (Elt F) (rowList f0 (chLo (wid L) + k) (b * 10000)) x).toNat < S40000x128.size gathers_S40000x128_S128x128.axis := hin f0 h0
  have hin1 : ∀ x, ((l1V).view.read (Elt F) (rowList f1 (chLo (wid L) + k) (b * 10000)) x).toNat < S40000x128.size gathers_S40000x128_S128x128.axis := hin f1 h1
  sl_exec
  have ea : (aV).view.writes (Elt F) (aV).view.junk [⟨Rect.whole S128x128, batch_run.sl.gather0 d L fT f0 k b hin0⟩] = gath fT f0 (chLo (wid L) + k) b :=
    (View.read_writes_whole (aV).view _ _).trans (funext fun y => gather_apply h0 _ hb fT (l0V).view _ rfl rfl hin0 y)
  have eb : (bV).view.writes (Elt F) (bV).view.junk [⟨Rect.whole S128x128, batch_run.sl.gather1 d L fT f1 k b hin1⟩] = gath fT f1 (chLo (wid L) + k) b :=
    (View.read_writes_whole (bV).view _ _).trans (funext fun y => gather_apply h1 _ hb fT (l1V).view _ rfl rfl hin1 y)
  ihave Ha' := (pts_eq (ℓ := (aV).view.loc (thr d L)) ea) $$ Ha
  ihave Hb' := (pts_eq (ℓ := (bV).view.loc (thr d L)) eb) $$ Hb
  sl_for (rowInv d L (gath fT f0 (chLo (wid L) + k) b) (gath fT f1 (chLo (wid L) + k) b)) $$ [Ha' Hb' Hr]
  case region =>
    intro r _
    exact rowTrip7 d L _ _ ⟨k, lt_of_lt_of_eq hk (t3_trips L).symm⟩ r
  · unfold rowInv
    isplitl [Ha']; · iexact Ha'
    isplitl [Hb']; · iexact Hb'
    iexists _
    isplitr
    swap; · iexact Hr
    ipureintro
    intro y hy
    exact absurd hy (Nat.not_lt_zero _)
  iintro %_ HI
  unfold rowInv
  icases HI with ⟨Ha, Hb, %fr', %hfr, Hr⟩
  sl_exec
  sl_step
  isplitl [Hs]; · iexact Hs
  isplitl [Hmw]; · iexact Hmw
  isplitl [Ht]; · iexact Ht
  isplitl [Ht']; · iexact Ht'
  isplitl [Hx0]; · iexact Hx0
  isplitl [Hx1]; · iexact Hx1
  isplitl [Hl0']; · iexists _; iexact Hl0'
  isplitl [Hl1']; · iexists _; iexact Hl1'
  isplitl [Ha]; · iexists _; iexact Ha
  isplitl [Hb]; · iexists _; iexact Hb
  isplitl [Hr]; · iexists _; iexact Hr
  isplitl [Hg0]; · iexact Hg0
  isplitl [Hg1]; · iexact Hg1
  isplitl [Hp Hrest]
  · iapply (out_join d L fT f0 f1 inb squeezes_S1x128x128_S128x128 hsub f _ (chPart (wid L) k b) _ hf ?_ ?_)
    rotate_left 2
    · isplitl [Hp]
      · iexact Hp
      · iexact Hrest
    · intro r l
      rw [View.read_writes_whole, G_edge d L fT f0 f1 hc hoff]
      exact hfr (ix2 r l) (lt_of_lt_of_eq r.isLt t7_trips.symm)
    · rintro y (h | h | ⟨a1, a2, a3⟩)
      · exact .inl (.inl h)
      · exact .inl (.inr (.inl h))
      · rcases Nat.lt_or_ge (y 0).val b with h | h
        · exact .inl (.inr (.inr ⟨a1, a2, h⟩))
        · exact .inr ((mem_chBlk b _ hoff _ _ y).mpr ⟨a1, a2, by omega⟩)
  · rw [← owing]; iapply (owing_of d L O W (waits_insert (waits_insert (waits_insert hW' _) _) _)); iexact HO
end

end Cert.Proof.KI

end
-- ==== Proof.KI.Chunk.lean ====
/-
  The chunk loop: for each of its chunks of 128 edges, worker `w` reads the two index lists, and for each of the four
  batches gathers the rows of both vertices, averages them and writes the chunk's rows of the output.
-/
module

public import proofs.«01_k».proof.Proof.KI.BatchRun

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2 eq_ix3)

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

variable [FloatOps F]

section
variable (d : Dev nD) (L : grid0.Coords) (q : PosShare TreeShare)
variable (fT : Buf (Elt F) ((tV).view.loc (thr d L))) (f0 : Buf (Elt F) ((iV).view.loc (thr d L))) (f1 : Buf (Elt F) ((jV).view.loc (thr d L)))
variable (O : CellTallies nD τ sig (HIx 1)) (W : Waits sig (HIx 1))

/-- What reading the two index lists uses and returns, the local lists at `P0` and `P1`. -/
def idxRes (P0 P1 : sProp 𝕄) : sProp 𝕄 :=
  iprop(Transfers.MayWaits (thr d L) (none : HIx 1) O
    ∗ ((iV).view.loc (thr d L) ↦{q} f0) ∗ ((jV).view.loc (thr d L) ↦{q} f1)
    ∗ P0 ∗ P1
    ∗ semVal (thr d L, SemLoc.dma cc0_scoped4.sem) 0 ∗ semVal (thr d L, SemLoc.dma cc0_scoped5.sem) 0
    ∗ owing d L O W)

/-- Chunk `k`'s two index lists are read in. -/
theorem indices_run (k : Fin (k0_t3_loop L).trips) :
    idxRes d L q f0 f1 O W iprop(∃ f, (x0V).view.loc (thr d L) ↦{fullShare} f) iprop(∃ f, (x1V).view.loc (thr d L) ↦{fullShare} f)
      ⊢ wp frame (wpE (defs₀ (F := F)) 𝒱₀ (thr d L) none) Set.univ (indices L k)
          (fun _ => idxRes d L q f0 f1 O W iprop((x0V).view.loc (thr d L) ↦{fullShare} chunkOf f0 (chLo (wid L) + k.val))
            iprop((x1V).view.loc (thr d L) ↦{fullShare} chunkOf f1 (chLo (wid L) + k.val))) := by
  have hk : k.val < chCnt (wid L) := lt_of_lt_of_eq k.isLt (t3_trips L)
  have hw := wid_lt L
  have hc : chLo (wid L) + k.val < 1250 := by
    unfold chCnt at hk; unfold chLo; split at hk <;> omega
  have hx (f : S160000.Idx → BitVec 32) (x : S128.Idx) :
      f ((Rect.unit (s := S160000) (k0_off5 L k) S128.size (k0_off5_inb L k)).emb x) = chunkOf f (chLo (wid L) + k.val) x := by
    unfold chunkOf
    refine congrArg f ((eq_ix1 _).trans (congrArg ix1 (Fin.ext ?_)))
    show k0_off5 L k 0 + 1 * (x 0).val = (128 * (chLo (wid L) + k.val) + (x 0).val) % 160000
    have h := (x 0).isLt
    have h' : (x 0).val < 128 := h
    rw [off5_eq L k]
    show 128 * (chLo (wid L) + k.val) + 1 * (x 0).val = _
    omega
  unfold idxRes indices
  rw [owing]
  iintro ⟨Hmw, Hi, Hj, ⟨%fx0, Hx0⟩, ⟨%fx1, Hx1⟩, Hs4, Hs5, %W', %hW', HO⟩
  sl_exec
  have ex0 : (x0V).view.write (Elt F) fx0 (indices_run.sl.dma0 d L f0 k) Finset.univ = chunkOf f0 (chLo (wid L) + k.val) :=
    (View.read_write_univ (v := (x0V).view) fx0 _).trans (funext fun x => hx f0 x)
  have ex1 : (x1V).view.write (Elt F) fx1 (indices_run.sl.dma0_1 d L f1 k) Finset.univ = chunkOf f1 (chLo (wid L) + k.val) :=
    (View.read_write_univ (v := (x1V).view) fx1 _).trans (funext fun x => hx f1 x)
  ihave Hx0' := (pts_eq (ℓ := (x0V).view.loc (thr d L)) ex0) $$ Hx0
  ihave Hx1' := (pts_eq (ℓ := (x1V).view.loc (thr d L)) ex1) $$ Hx1
  sl_step
  isplitl [Hmw]; · iexact Hmw
  isplitl [Hi]; · iexact Hi
  isplitl [Hj]; · iexact Hj
  isplitl [Hx0']; · iexact Hx0'
  isplitl [Hx1']; · iexact Hx1'
  isplitl [Hs4]; · iexact Hs4
  isplitl [Hs5]; · iexact Hs5
  rw [← owing]; iapply (owing_of d L O W (waits_insert (waits_insert hW' _) _)); iexact HO

/-- Before trip `k` of the chunk loop the first `k` chunks are written. -/
def chInv (k : ℕ) (_ : Unit) : sProp 𝕄 :=
  iprop(Transfers.MayWaits (thr d L) (none : HIx 1) O
    ∗ ((tV).view.loc (thr d L) ↦{q.left} fT) ∗ ((tV).view.loc (thr d L) ↦{q.right} fT)
    ∗ ((iV).view.loc (thr d L) ↦{q} f0) ∗ ((jV).view.loc (thr d L) ↦{q} f1)
    ∗ (∃ f, (x0V).view.loc (thr d L) ↦{fullShare} f) ∗ (∃ f, (x1V).view.loc (thr d L) ↦{fullShare} f)
    ∗ (∃ f, (l0V).view.loc (thr d L) ↦{fullShare} f) ∗ (∃ f, (l1V).view.loc (thr d L) ↦{fullShare} f)
    ∗ (∃ f, (aV).view.loc (thr d L) ↦{fullShare} f) ∗ (∃ f, (bV).view.loc (thr d L) ↦{fullShare} f)
    ∗ (∃ f, (rV).view.loc (thr d L) ↦{fullShare} f)
    ∗ semVal (thr d L, SemLoc.dma cc0_scratch8.sem) 0 ∗ semVal (thr d L, SemLoc.dma cc0_scratch9.sem) 0
    ∗ semVal (thr d L, SemLoc.dma cc0_scoped4.sem) 0 ∗ semVal (thr d L, SemLoc.dma cc0_scoped5.sem) 0
    ∗ semVal (thr d L, SemLoc.dma cc0_scoped6.sem) 0 ∗ semVal (thr d L, SemLoc.dma cc0_scoped7.sem) 0
    ∗ semVal (thr d L, SemLoc.dma cc0_scoped8.sem) 0 ∗ semVal (thr d L, SemLoc.dma cc0_scoped9.sem) 0
    ∗ outAt d L fT f0 f1 (chPart (wid L) k 0)
    ∗ owing d L O W)

/-- The rows are also at any narrower set of positions. -/
theorem outAt_mono {done done' : S4x170000x128.Idx → Prop} (h : ∀ y, done' y → done y) : outAt d L fT f0 f1 done ⊢ outAt d L fT f0 f1 done' := by
  unfold outAt
  iintro ⟨%f, %hf, Ho⟩
  iexists f
  isplitr
  · ipureintro; exact fun y hy => hf y (h y hy)
  · iexact Ho

omit [FloatOps F] in
/-- A chunk is done when its four batches are. -/
theorem chPart_succ {w k : ℕ} {y : S4x170000x128.Idx} (h : chPart w (k + 1) 0 y) : chPart w k 4 y := by
  have h0 : (y 0).val < 4 := (y 0).isLt
  rcases h with h | ⟨a, b, c⟩ | ⟨_, _, h⟩
  · exact .inl h
  · rcases Nat.lt_or_ge (chOf y) (chLo w + k) with e | e
    · exact .inr (.inl ⟨a, b, e⟩)
    · exact .inr (.inr ⟨a, by omega, h0⟩)
  · exact absurd h (Nat.not_lt_zero _)

/-- A trip of the chunk loop writes its chunk in all four batches. -/
theorem chTrip (h0 : ∀ e, (f0 e).toNat < 10000) (h1 : ∀ e, (f1 e).toNat < 10000) (v18 : BitVec 32) (k : Fin (k0_t3_loop L).trips) :
    chInv d L q fT f0 f1 O W k.val ()
      ⊢ wp frame (wpE (defs₀ (F := F)) 𝒱₀ (thr d L) none) Set.univ
          (k0_t3_body (F := F) L tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 v18 k ())
          (chInv d L q fT f0 f1 O W (k.val + 1)) := by
  have hk : k.val < chCnt (wid L) := lt_of_lt_of_eq k.isLt (t3_trips L)
  have B (b : ℕ) (hb : b < 4) (off : Fin 3 → ℕ) (hoff : off = ![b, 10000 + 128 * (chLo (wid L) + k.val), 0]) (inb) (s) :=
    batch_run d L q fT f0 f1 O W h0 h1 k.val hk b hb off hoff inb s
  rw [chunk_eq]
  unfold chInv
  iintro ⟨#Hmw, Ht, Ht', Hi, Hj, Hx0, Hx1, Hl0, Hl1, Ha, Hb, Hr, Hg0, Hg1, Hs4, Hs5, Hs6, Hs7, Hs8, Hs9, Ho, HO⟩
  rw [wp_bind]
  iapply (wp_wand_r frame _ _ (Q := fun _ => idxRes d L q f0 f1 O W iprop((x0V).view.loc (thr d L) ↦{fullShare} chunkOf f0 (chLo (wid L) + k.val))
            iprop((x1V).view.loc (thr d L) ↦{fullShare} chunkOf f1 (chLo (wid L) + k.val))))
  isplitl [Hi Hj Hx0 Hx1 Hs4 Hs5 HO]
  · iapply (indices_run d L q f0 f1 O W k)
    unfold idxRes
    isplitr; · iexact Hmw
    isplitl [Hi]; · iexact Hi
    isplitl [Hj]; · iexact Hj
    isplitl [Hx0]; · iexact Hx0
    isplitl [Hx1]; · iexact Hx1
    isplitl [Hs4]; · iexact Hs4
    isplitl [Hs5]; · iexact Hs5
    iexact HO
  iintro %_ HI
  unfold idxRes
  icases HI with ⟨-, Hi, Hj, Hx0, Hx1, Hs4, Hs5, HO⟩
  rw [wp_bind]
  iapply (wp_wand_r frame _ _ (Q := fun _ => iprop(semVal (thr d L, SemLoc.dma cc0_scoped6.sem) 0 ∗ batchInv d L q fT f0 f1 O W k.val 1)))
  isplitl [Ht Ht' Hx0 Hx1 Hl0 Hl1 Ha Hb Hr Hg0 Hg1 Hs6 Ho HO]
  · iapply (B 0 (by decide) _ (off14_eq L k) _ _)
    unfold batchInv
    isplitl [Hs6]; · iexact Hs6
    isplitr; · iexact Hmw
    isplitl [Ht]; · iexact Ht
    isplitl [Ht']; · iexact Ht'
    isplitl [Hx0]; · iexact Hx0
    isplitl [Hx1]; · iexact Hx1
    isplitl [Hl0]; · iexact Hl0
    isplitl [Hl1]; · iexact Hl1
    isplitl [Ha]; · iexact Ha
    isplitl [Hb]; · iexact Hb
    isplitl [Hr]; · iexact Hr
    isplitl [Hg0]; · iexact Hg0
    isplitl [Hg1]; · iexact Hg1
    isplitl [Ho]; · iexact Ho
    iexact HO
  iintro %_ ⟨Hs6, HB⟩
  rw [wp_bind]
  iapply (wp_wand_r frame _ _ (Q := fun _ => iprop(semVal (thr d L, SemLoc.dma cc0_scoped7.sem) 0 ∗ batchInv d L q fT f0 f1 O W k.val 2)))
  isplitl [Hs7 HB]
  · iapply (B 1 (by decide) _ (off23_eq L k) _ _)
    isplitl [Hs7] <;> iassumption
  iintro %_ ⟨Hs7, HB⟩
  rw [wp_bind]
  iapply (wp_wand_r frame _ _ (Q := fun _ => iprop(semVal (thr d L, SemLoc.dma cc0_scoped8.sem) 0 ∗ batchInv d L q fT f0 f1 O W k.val 3)))
  isplitl [Hs8 HB]
  · iapply (B 2 (by decide) _ (off32_eq L k) _ _)
    isplitl [Hs8] <;> iassumption
  iintro %_ ⟨Hs8, HB⟩
  iapply (wp_wand_r frame _ _ (Q := fun _ => iprop(semVal (thr d L, SemLoc.dma cc0_scoped9.sem) 0 ∗ batchInv d L q fT f0 f1 O W k.val 4)))
  isplitl [Hs9 HB]
  · iapply (B 3 (by decide) _ (off41_eq L k) _ _)
    isplitl [Hs9] <;> iassumption
  iintro %_ ⟨Hs9, HB⟩
  unfold batchInv
  icases HB with ⟨-, Ht, Ht', Hx0, Hx1, Hl0, Hl1, Ha, Hb, Hr, Hg0, Hg1, Ho, HO⟩
  isplitr; · iexact Hmw
  isplitl [Ht]; · iexact Ht
  isplitl [Ht']; · iexact Ht'
  isplitl [Hi]; · iexact Hi
  isplitl [Hj]; · iexact Hj
  isplitl [Hx0]; · iexists _; iexact Hx0
  isplitl [Hx1]; · iexists _; iexact Hx1
  isplitl [Hl0]; · iexact Hl0
  isplitl [Hl1]; · iexact Hl1
  isplitl [Ha]; · iexact Ha
  isplitl [Hb]; · iexact Hb
  isplitl [Hr]; · iexact Hr
  isplitl [Hg0]; · iexact Hg0
  isplitl [Hg1]; · iexact Hg1
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Ho]; · iapply (outAt_mono d L fT f0 f1 fun y hy => chPart_succ hy); iexact Ho
  iexact HO
end

end Cert.Proof.KI

end
-- ==== Proof.KI.Tile.lean ====
/-
  The tile's program: from its read shares of the table and the index arrays and its rows of the output, the copy loop and
  the chunk loop bring those rows to the value.
-/
module

public import proofs.«01_k».proof.Proof.KI.Copy
public import proofs.«01_k».proof.Proof.KI.Chunk

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2 eq_ix3)

variable {F : FTy → Type}

local notation "𝕄" => MT nD τ sig (HIx 1) (Elt F) ℕ UU ℕ
local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

/-! ## A tile's own semaphores and buffers -/

/-- The semaphores the two loops wait on. -/
def usedSems : Finset (SemLoc sig) :=
  {.dma cc0_scratch8.sem, .dma cc0_scratch9.sem, .dma cc0_scoped0.sem, .dma cc0_scoped1.sem, .dma cc0_scoped4.sem,
    .dma cc0_scoped5.sem, .dma cc0_scoped6.sem, .dma cc0_scoped7.sem, .dma cc0_scoped8.sem, .dma cc0_scoped9.sem}

/-- The tile's scratch buffers. -/
def usedRefs : Finset (Ref sig .scVector) :=
  {cc0_scratch0, cc0_scratch1, cc0_scratch2, cc0_scratch3, cc0_scratch4, cc0_scratch5, cc0_scratch6, cc0_scratch7}

/-- A thread's semaphore. -/
def cellEmb (t : Thread nD τ) : SemLoc sig ↪ GSem nD τ sig := ⟨fun s => (t, s), fun _ _ h => congrArg Prod.snd h⟩

/-- A subcore's buffer. -/
def refEmb (c : Fin τ.nSC) (i : Fin τ.nSub) : Ref sig .scVector ↪ DevRef τ sig :=
  ⟨(Proc.scVector c i).devRef, Proc.devRef_injective _⟩

section
variable (d : Dev nD) (c : Fin τ.nSC) (i : Fin τ.nSub)

theorem cells_own : usedSems.map (cellEmb (V d c i)) ⊆ ownCells (V d c i) := by
  intro g hg
  obtain ⟨s, hs, rfl⟩ := Finset.mem_map.mp hg
  have h : ∀ s ∈ usedSems, s.isScoped .scVector = true := by decide
  exact mem_ownCells.mpr ⟨rfl, h s hs⟩

theorem refs_own : usedRefs.map (refEmb c i) ⊆ ownRefs (τ := τ) (.scVector c i) := by
  intro b hb
  obtain ⟨r, hr, rfl⟩ := Finset.mem_map.mp hb
  simp only [usedRefs, Finset.mem_insert, Finset.mem_singleton] at hr
  rcases hr with rfl | rfl | rfl | rfl | rfl | rfl | rfl | rfl <;> exact SparseCore.Cfg.mem_ownRefs_of_owner rfl

/-- The tile's semaphores at zero are those the loops use and the rest. -/
theorem ownSems0_V : (ownSems0 (V d c i) : sProp 𝕄)
    = iprop((semVal (V d c i, SemLoc.dma cc0_scratch8.sem) 0 ∗ semVal (V d c i, SemLoc.dma cc0_scratch9.sem) 0
        ∗ semVal (V d c i, SemLoc.dma cc0_scoped0.sem) 0 ∗ semVal (V d c i, SemLoc.dma cc0_scoped1.sem) 0
        ∗ semVal (V d c i, SemLoc.dma cc0_scoped4.sem) 0 ∗ semVal (V d c i, SemLoc.dma cc0_scoped5.sem) 0
        ∗ semVal (V d c i, SemLoc.dma cc0_scoped6.sem) 0 ∗ semVal (V d c i, SemLoc.dma cc0_scoped7.sem) 0
        ∗ semVal (V d c i, SemLoc.dma cc0_scoped8.sem) 0 ∗ semVal (V d c i, SemLoc.dma cc0_scoped9.sem) 0)
      ∗ bigSep (ownCells (V d c i) \ usedSems.map (cellEmb (V d c i))) fun g => semVal g 0) := by
  unfold SparseCore.Cfg.ownSems0
  rw [bigSep_sdiff_split (cells_own d c i), bigSep_map]
  unfold usedSems
  iterate 9 rw [SparseCore.bigSep_insert' (by decide)]
  rw [bigSep_singleton]
  rfl

/-- The tile's buffers are its scratch buffers, at some contents, and the rest. -/
theorem ownBufs_V : (ownBufs (V d c i) : sProp 𝕄)
    = iprop(((∃ f, (V d c i).loc cc0_scratch0 ↦{fullShare} f) ∗ (∃ f, (V d c i).loc cc0_scratch1 ↦{fullShare} f)
        ∗ (∃ f, (V d c i).loc cc0_scratch2 ↦{fullShare} f) ∗ (∃ f, (V d c i).loc cc0_scratch3 ↦{fullShare} f)
        ∗ (∃ f, (V d c i).loc cc0_scratch4 ↦{fullShare} f) ∗ (∃ f, (V d c i).loc cc0_scratch5 ↦{fullShare} f)
        ∗ (∃ f, (V d c i).loc cc0_scratch6 ↦{fullShare} f) ∗ (∃ f, (V d c i).loc cc0_scratch7 ↦{fullShare} f))
      ∗ bigSep (ownRefs (τ := τ) (.scVector c i) \ usedRefs.map (refEmb c i))
          fun b => iprop(∃ f, ((d, b) : Loc nD τ sig) ↦{fullShare} f)) := by
  unfold SparseCore.Cfg.ownBufs
  refine (bigSep_sdiff_split (refs_own c i)).trans ?_
  rw [bigSep_map]
  unfold usedRefs
  iterate 7 rw [SparseCore.bigSep_insert' (by decide)]
  rw [bigSep_singleton]
  rfl
end

/-! ## The tile's program -/

variable [FloatOps F]

section
variable (d : Dev nD) (L : grid0.Coords) (q : PosShare TreeShare)
variable (fT : Buf (Elt F) ((tV).view.loc (thr d L))) (f0 : Buf (Elt F) ((iV).view.loc (thr d L))) (f1 : Buf (Elt F) ((jV).view.loc (thr d L)))
variable (O : CellTallies nD τ sig (HIx 1)) (W : Waits sig (HIx 1))

/-- Before the first chunk the vertex rows are done. -/
theorem chPart_zero {w : ℕ} {y : S4x170000x128.Idx} (h : chPart w 0 0 y) : cpDone w (cpCnt w) y := by
  rcases h with h | ⟨_, _, h⟩ | ⟨_, _, h⟩
  · exact h
  · omega
  · omega

/-- After the last chunk the worker's rows are at the value. -/
theorem out_done : outAt d L fT f0 f1 (chPart (wid L) (chCnt (wid L)) 0)
    ⊢ ((oV).view.loc (thr d L) ↦[outSet (wid L)]{fullShare} (G fT f0 f1 : S4x170000x128.Idx → F .f32) : sProp 𝕄) := by
  unfold outAt
  iintro ⟨%f, %hf, Ho⟩
  iapply (Entails.of_eq (pointsTo_congr (ℓ := (oV).view.loc (thr d L)) (f := f) (g := G fT f0 f1) fun y hy =>
    hf y ((mem_outSet.mp hy).elim Or.inl fun h => .inr (.inl h))))
  iexact Ho

/-- What a tile is handed: read shares of the table and the two index arrays, and its rows of the output at `fo`. -/
def tilePts (q : PosShare TreeShare) (fo : Buf (Elt F) ((oV).view.loc (thr d L))) : sProp 𝕄 :=
  iprop(((tV).view.loc (thr d L) ↦{q} fT) ∗ ((iV).view.loc (thr d L) ↦{q} f0) ∗ ((jV).view.loc (thr d L) ↦{q} f1)
    ∗ (oV).view.loc (thr d L) ↦[outSet (wid L)]{fullShare} fo)

set_option maxHeartbeats 1000000 in
/-- The tile's program, from the index arrays in range: its rows of the output end at the value. -/
theorem tile_body (hF : (K (F := F)).Facts) (h0 : ∀ e, (f0 e).toNat < 10000) (h1 : ∀ e, (f1 e).toNat < 10000)
    (fo : Buf (Elt F) ((oV).view.loc (thr d L))) (hO : ∀ g, O g none = 0) :
    iprop(levAts (K (F := F)).L (K (F := F)).lev ∗ emp ∗ tilePts d L fT f0 f1 q fo
        ∗ scopedBufs (thr d L) ∗ scopedSems0 (thr d L) ∗ owes (thr d L) O W)
      ⊢ wp frame (wpE (defs₀ (F := F)) 𝒱₀ (thr d L) none) Set.univ
          (cc0__unpool_kernel (F := F) L tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15)
          (fun _ => iprop(tilePts d L fT f0 f1 q (G fT f0 f1 : S4x170000x128.Idx → F .f32)
            ∗ scopedBufs (thr d L) ∗ scopedSems0 (thr d L)
            ∗ ∃ W', ⌜∀ p ∈ W', p ∈ W ∨ p.2 = none⌝ ∗ owes (thr d L) O W')) := by
  simp only [cc0__unpool_kernel_eq_skeleton]; unfold cc0__unpool_kernel_skel
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V]
  unfold tilePts
  iintro ⟨#Hlv, -, ⟨Ht, Hi, Hj, Ho⟩, ⟨⟨Hx0, Hx1, Hl0, Hl1, Ha, Hb, Hr, Hc⟩, Hbufs⟩, ⟨⟨Hg0, Hg1, Hs0, Hs1, Hs4, Hs5, Hs6, Hs7, Hs8, Hs9⟩, Hsems⟩, HO⟩
  ihave #Hmw := (show levAts (K (F := F)).L (K (F := F)).lev ⊢ Transfers.MayWaits (thr d L) (default : HIx 1) O from
    (K (F := F)).mayWaits_none (thr := thr d L) hO) $$ Hlv
  sl_exec
  sl_for (cpInv d L q fT f0 f1 O W) $$ [Ht Hc Hs0 Hs1 Ho HO]
  case region => intro k _; exact cpTrip d L q fT f0 f1 O W _ k
  · unfold cpInv
    isplitr; · iexact Hmw
    isplitl [Ht]; · iexact Ht
    isplitl [Hc]; · iexact Hc
    isplitl [Hs0]; · iexact Hs0
    isplitl [Hs1]; · iexact Hs1
    isplitl [Ho]
    · unfold outAt; iexists fo; isplitr
      · ipureintro; rintro y ⟨_, h, h'⟩; omega
      · iexact Ho
    · iapply (owing_of d L O W fun p hp => Or.inl hp); iexact HO
  iintro %_ HI
  unfold cpInv
  icases HI with ⟨-, Ht, Hc, Hs0, Hs1, Ho, HO⟩
  ihave Ht2 := (pointsTo_share (PosShare.mem_left_op_right q)).1 $$ Ht
  icases Ht2 with ⟨Htl, Htr⟩
  sl_exec
  sl_for (chInv d L q fT f0 f1 O W) $$ [Htl Htr Hi Hj Hx0 Hx1 Hl0 Hl1 Ha Hb Hr Hg0 Hg1 Hs4 Hs5 Hs6 Hs7 Hs8 Hs9 Ho HO]
  case region => intro k _; exact chTrip d L q fT f0 f1 O W h0 h1 _ k
  · unfold chInv
    isplitr; · iexact Hmw
    isplitl [Htl]; · iexact Htl
    isplitl [Htr]; · iexact Htr
    isplitl [Hi]; · iexact Hi
    isplitl [Hj]; · iexact Hj
    isplitl [Hx0]; · iexact Hx0
    isplitl [Hx1]; · iexact Hx1
    isplitl [Hl0]; · iexact Hl0
    isplitl [Hl1]; · iexact Hl1
    isplitl [Ha]; · iexact Ha
    isplitl [Hb]; · iexact Hb
    isplitl [Hr]; · iexact Hr
    isplitl [Hg0]; · iexact Hg0
    isplitl [Hg1]; · iexact Hg1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Ho]
    · rw [show Scf.trips (k0_t1_loop L).lb (k0_t1_loop L).ub (k0_t1_loop L).st = _ from t1_trips L]
      iapply (outAt_mono d L fT f0 f1 fun y hy => chPart_zero hy); iexact Ho
    · iexact HO
  iintro %_ HI
  unfold chInv
  icases HI with ⟨-, Htl, Htr, Hi, Hj, Hx0, Hx1, Hl0, Hl1, Ha, Hb, Hr, Hg0, Hg1, Hs4, Hs5, Hs6, Hs7, Hs8, Hs9, Ho, HO⟩
  sl_exec
  sl_step
  rw [show Scf.trips (k0_t3_loop L).lb (k0_t3_loop L).ub (k0_t3_loop L).st = _ from t3_trips L]
  isplitl [Htl Htr Hi Hj Ho]
  · isplitl [Htl Htr]
    · iapply (pointsTo_share (PosShare.mem_left_op_right q)).2
      isplitl [Htl] <;> iassumption
    isplitl [Hi]; · iexact Hi
    isplitl [Hj]; · iexact Hj
    iapply (out_done d L fT f0 f1); iexact Ho
  isplitl [Hx0 Hx1 Hl0 Hl1 Ha Hb Hr Hc Hbufs]
  · isplitr [Hbufs]
    · isplitl [Hx0]; · iexact Hx0
      isplitl [Hx1]; · iexact Hx1
      isplitl [Hl0]; · iexact Hl0
      isplitl [Hl1]; · iexact Hl1
      isplitl [Ha]; · iexact Ha
      isplitl [Hb]; · iexact Hb
      isplitl [Hr]; · iexact Hr
      iexact Hc
    · iexact Hbufs
  isplitr [HO]
  · isplitr [Hsems]
    · isplitl [Hg0]; · iexact Hg0
      isplitl [Hg1]; · iexact Hg1
      isplitl [Hs0]; · iexact Hs0
      isplitl [Hs1]; · iexact Hs1
      isplitl [Hs4]; · iexact Hs4
      isplitl [Hs5]; · iexact Hs5
      isplitl [Hs6]; · iexact Hs6
      isplitl [Hs7]; · iexact Hs7
      isplitl [Hs8]; · iexact Hs8
      iexact Hs9
    · iexact Hsems
  unfold owing
  iexact HO
end

end Cert.Proof.KI

end
-- ==== Proof.KI.Split.lean ====
/-
  The call's payloads: each SparseCore and each tile gets a read share of the table and of the two index arrays and its own
  rows of the output. The workers' rows are disjoint and together the whole output.
-/
module

public import proofs.«01_k».proof.Proof.KI.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2 eq_ix3)

open Idealize.ShloMosaic.ShareLeaves (leaf pointsTo_leaves)
variable {F : FTy → Type}

local notation "𝕄" => MT nD τ sig (HIx 1) (Elt F) ℕ UU ℕ
local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

/-! ## The workers' rows partition the output -/

/-- The rows of the tile on SparseCore `c` and subcore `s`. -/
def taskSet (c : Fin 2) (s : Fin 16) : Finset S4x170000x128.Idx := outSet (s.val * 2 + c.val)
/-- The rows of SparseCore `c`'s tiles. -/
def coreSet (c : Fin 2) : Finset S4x170000x128.Idx := Finset.univ.biUnion (taskSet c)

theorem outSet_disjoint {w w' : ℕ} (h : w ≠ w') : Disjoint (outSet w) (outSet w') := by
  refine Finset.disjoint_left.mpr fun y hy hy' => h ?_
  have a := mem_outSet.mp hy
  have b := mem_outSet.mp hy'
  unfold cpDone chDone cpLo cpCnt chLo chCnt at a b
  rcases a with ⟨a1, a2, a3⟩ | ⟨a1, a2, a3⟩ <;> rcases b with ⟨b1, b2, b3⟩ | ⟨b1, b2, b3⟩
  · split at a3 <;> split at b3 <;> omega
  · omega
  · omega
  · split at a3 <;> split at b3 <;> omega

theorem outSet_cover (y : S4x170000x128.Idx) : ∃ w, w < 32 ∧ y ∈ outSet w := by
  have y0 : (y 0).val < 4 := (y 0).isLt
  have y1 : (y 1).val < 170000 := (y 1).isLt
  rcases Nat.lt_or_ge (y 1).val 10000 with h | h
  · have hq : cpOf y < 500 := by unfold cpOf; omega
    refine ⟨if cpOf y < 320 then cpOf y / 16 else (cpOf y - 20) / 15, by split <;> omega, mem_outSet.mpr (.inl ⟨h, ?_⟩)⟩
    unfold cpLo cpCnt
    split <;> split <;> omega
  · have hq : chOf y < 1250 := by unfold chOf; omega
    refine ⟨if chOf y < 80 then chOf y / 40 else (chOf y - 2) / 39, by split <;> omega, mem_outSet.mpr (.inr ⟨h, ?_⟩)⟩
    unfold chLo chCnt
    split <;> split <;> omega

theorem tasks_disjoint (c : Fin 2) : ∀ i ∈ (Finset.univ : Finset (Fin 16)), ∀ j ∈ (Finset.univ : Finset (Fin 16)), i ≠ j →
    Disjoint (taskSet c i) (taskSet c j) := fun i _ j _ h =>
  outSet_disjoint fun e => h (Fin.ext (by omega))

theorem cores_disjoint : ∀ i ∈ (Finset.univ : Finset (Fin 2)), ∀ j ∈ (Finset.univ : Finset (Fin 2)), i ≠ j →
    Disjoint (coreSet i) (coreSet j) := fun i _ j _ h => by
  unfold coreSet
  refine (Finset.disjoint_biUnion_left _ _ _).mpr fun s _ => (Finset.disjoint_biUnion_right _ _ _).mpr fun s' _ => outSet_disjoint fun e => h (Fin.ext ?_)
  have := i.isLt; have := j.isLt; omega

theorem cores_cover : (Finset.univ : Finset (Fin 2)).biUnion coreSet = Finset.univ := by
  refine Finset.eq_univ_iff_forall.mpr fun y => ?_
  obtain ⟨w, hw, hy⟩ := outSet_cover y
  refine Finset.mem_biUnion.mpr ⟨⟨w % 2, Nat.mod_lt _ (by decide)⟩, Finset.mem_univ _, Finset.mem_biUnion.mpr ⟨⟨w / 2, by omega⟩, Finset.mem_univ _, ?_⟩⟩
  show y ∈ outSet (w / 2 * 2 + w % 2)
  rw [show w / 2 * 2 + w % 2 = w by omega]
  exact hy

/-! ## What goes to the SparseCores and to their tiles -/

abbrev tLoc (d : Dev nD) : Loc nD τ sig := (SparseCore.T d).loc main_v0
abbrev iLoc (d : Dev nD) : Loc nD τ sig := (SparseCore.T d).loc main_v2
abbrev jLoc (d : Dev nD) : Loc nD τ sig := (SparseCore.T d).loc main_v4
abbrev oLoc (d : Dev nD) : Loc nD τ sig := (SparseCore.T d).loc main_v5

theorem nCore_zero : (K (F := F)).nCore 0 = 2 := rfl
theorem nSub_zero : (K (F := F)).nSub 0 = 16 := rfl

/-- SparseCore `c`'s read share and its tile's. -/
abbrev coreQ (c : Fin 2) : PosShare TreeShare := leaf 1 fullShare c
abbrev taskQ (c : Fin 2) (s : Fin 16) : PosShare TreeShare := leaf 4 (coreQ c) s

section
variable (vT : (d : Dev nD) → Buf (Elt F) (tLoc d)) (v0 : (d : Dev nD) → Buf (Elt F) (iLoc d)) (v1 : (d : Dev nD) → Buf (Elt F) (jLoc d))

/-- The table and the index arrays at share `q`, and the positions `S` of the output at `f`. -/
def ptsAt (d : Dev nD) (q : PosShare TreeShare) (S : Finset S4x170000x128.Idx) (f : Buf (Elt F) (oLoc d)) : sProp 𝕄 :=
  iprop((tLoc d ↦{q} vT d) ∗ (iLoc d ↦{q} v0 d) ∗ (jLoc d ↦{q} v1 d) ∗ oLoc d ↦[S]{fullShare} f)

instance (d : Dev nD) (q : PosShare TreeShare) (S : Finset S4x170000x128.Idx) (f : Buf (Elt F) (oLoc d)) :
    BI.Storable (upEmb : UEmb _ 𝕄) (ptsAt vT v0 v1 d q S f) := by unfold ptsAt; infer_instance

/-- Everything is both SparseCores' parts. -/
theorem cores_split (d : Dev nD) (f : Buf (Elt F) (oLoc d)) :
    ptsAt vT v0 v1 d fullShare Finset.univ f = bigSep Finset.univ fun c : Fin 2 => ptsAt vT v0 v1 d (coreQ c) (coreSet c) f := by
  unfold ptsAt
  rw [bigSep_sep', bigSep_sep', bigSep_sep', ← pointsTo_biUnion Finset.univ (ℓ := oLoc d) coreSet cores_disjoint, cores_cover]
  exact congr (congrArg _ (pointsTo_leaves Finset.univ (vT d) 1 fullShare)) (congr (congrArg _ (pointsTo_leaves Finset.univ (v0 d) 1 fullShare))
    (congr (congrArg _ (pointsTo_leaves Finset.univ (v1 d) 1 fullShare)) rfl))

/-- A SparseCore's part is its tiles' parts. -/
theorem tasks_split (d : Dev nD) (c : Fin 2) (f : Buf (Elt F) (oLoc d)) :
    ptsAt vT v0 v1 d (coreQ c) (coreSet c) f = bigSep Finset.univ fun s : Fin 16 => ptsAt vT v0 v1 d (taskQ c s) (taskSet c s) f := by
  unfold ptsAt coreSet
  rw [bigSep_sep', bigSep_sep', bigSep_sep', ← pointsTo_biUnion Finset.univ (ℓ := oLoc d) (taskSet c) (tasks_disjoint c)]
  exact congr (congrArg _ (pointsTo_leaves Finset.univ (vT d) 4 (coreQ c))) (congr (congrArg _ (pointsTo_leaves Finset.univ (v0 d) 4 (coreQ c)))
    (congr (congrArg _ (pointsTo_leaves Finset.univ (v1 d) 4 (coreQ c))) rfl))

variable [FloatOps F] (vo : (d : Dev nD) → Buf (Elt F) (oLoc d))

/-- The output the kernel leaves. -/
def outG (d : Dev nD) : Buf (Elt F) (oLoc d) :=
  (G (vT d : S40000x128.Idx → F .f32) (v0 d : S160000.Idx → BitVec 32) (v1 d : S160000.Idx → BitVec 32) : S4x170000x128.Idx → F .f32)

/-- What the call hands each SparseCore and each tile, and what comes back: the output's rows at the value. -/
def P : (K (F := F)).Pay (nD := nD) (Val := Elt F) (Name := ℕ) (U := UU) where
  st := fun q d c => match q with
    | 0 => ptsAt vT v0 v1 d (coreQ (Fin.cast nCore_zero c)) (coreSet (Fin.cast nCore_zero c)) (vo d)
  dn := fun q d c => match q with
    | 0 => ptsAt vT v0 v1 d (coreQ (Fin.cast nCore_zero c)) (coreSet (Fin.cast nCore_zero c)) (outG vT v0 v1 d)
  go := fun q d c i => match q with
    | 0 => ptsAt vT v0 v1 d (taskQ (Fin.cast nCore_zero c) (Fin.cast nSub_zero i)) (taskSet (Fin.cast nCore_zero c) (Fin.cast nSub_zero i)) (vo d)
  td := fun q d c i => match q with
    | 0 => ptsAt vT v0 v1 d (taskQ (Fin.cast nCore_zero c) (Fin.cast nSub_zero i)) (taskSet (Fin.cast nCore_zero c) (Fin.cast nSub_zero i)) (outG vT v0 v1 d)
  x := fun _ _ => iprop(emp)

instance P_storable : (P vT v0 v1 vo).IsStorable where
  st q d c := match q with
    | 0 => (inferInstance : BI.Storable (upEmb : UEmb _ 𝕄) (ptsAt vT v0 v1 d (coreQ (Fin.cast nCore_zero c)) (coreSet (Fin.cast nCore_zero c)) (vo d)))
  dn q d c := match q with
    | 0 => (inferInstance : BI.Storable (upEmb : UEmb _ 𝕄)
      (ptsAt vT v0 v1 d (coreQ (Fin.cast nCore_zero c)) (coreSet (Fin.cast nCore_zero c)) (outG vT v0 v1 d)))
  go q d c i := match q with
    | 0 => (inferInstance : BI.Storable (upEmb : UEmb _ 𝕄)
      (ptsAt vT v0 v1 d (taskQ (Fin.cast nCore_zero c) (Fin.cast nSub_zero i)) (taskSet (Fin.cast nCore_zero c) (Fin.cast nSub_zero i)) (vo d)))
  td q d c i := match q with
    | 0 => (inferInstance : BI.Storable (upEmb : UEmb _ 𝕄)
      (ptsAt vT v0 v1 d (taskQ (Fin.cast nCore_zero c) (Fin.cast nSub_zero i)) (taskSet (Fin.cast nCore_zero c) (Fin.cast nSub_zero i)) (outG vT v0 v1 d)))

/-! ## The tile's obligation -/

/-- A tile's coordinates in the call's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__unpool_kernel (coordsV c s)
          tV (Memref.isWhole_whole _) iV (Memref.isWhole_whole _) jV (Memref.isWhole_whole _) oV (Memref.isWhole_whole _) x0V (Memref.isWhole_whole _) x1V (Memref.isWhole_whole _) l0V (Memref.isWhole_whole _) l1V (Memref.isWhole_whole _) aV (Memref.isWhole_whole _) bV (Memref.isWhole_whole _) rV (Memref.isWhole_whole _) cV (Memref.isWhole_whole _) cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15) ⟨⟩ c s := rfl

omit [FloatOps F] in
/-- The tile's postcondition in the obligation's form. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its program, from index arrays in range. -/
theorem tileObl (hF : (K (F := F)).Facts) (h0 : ∀ d (e : S160000.Idx), (v0 d e).toNat < 10000) (h1 : ∀ d (e : S160000.Idx), (v1 d e).toNat < 10000) :
    (K (F := F)).TileObl (D (F := F)) 𝒱 (P vT v0 v1 vo) v₀ 0 := by
  intro d c i O W hO _ _
  simp only [show (P vT v0 v1 vo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (taskQ (Fin.cast nCore_zero c) (Fin.cast nSub_zero i)) (vT d) (v0 d) (v1 d) O W hF (h0 d) (h1 d) (vo d) hO).trans
    (wp_mono frame _ _ fun _ => obl_post)

/-! ## The split over the tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore deals its part to its tiles and takes theirs back. -/
theorem vecSplit : (K (F := F)).VecSplit' (P vT v0 v1 vo) 0 := by
  intro d c
  show ptsAt vT v0 v1 d (coreQ (Fin.cast nCore_zero c)) (coreSet (Fin.cast nCore_zero c)) (vo d) ⊢ |={Set.univ}=> iprop(
      (bigSep Finset.univ fun i : Fin ((K (F := F)).nSub 0) =>
        ptsAt vT v0 v1 d (taskQ (Fin.cast nCore_zero c) (Fin.cast nSub_zero i)) (taskSet (Fin.cast nCore_zero c) (Fin.cast nSub_zero i)) (vo d))
      ∗ ((bigSep Finset.univ fun i : Fin ((K (F := F)).nSub 0) =>
        ptsAt vT v0 v1 d (taskQ (Fin.cast nCore_zero c) (Fin.cast nSub_zero i)) (taskSet (Fin.cast nCore_zero c) (Fin.cast nSub_zero i)) (outG vT v0 v1 d))
          -∗ ptsAt vT v0 v1 d (coreQ (Fin.cast nCore_zero c)) (coreSet (Fin.cast nCore_zero c)) (outG vT v0 v1 d)))
  rw [bigSep_tasks (F := F) (fun i => ptsAt vT v0 v1 d (taskQ (Fin.cast nCore_zero c) i) (taskSet (Fin.cast nCore_zero c) i) (vo d)),
    bigSep_tasks (F := F) (fun i => ptsAt vT v0 v1 d (taskQ (Fin.cast nCore_zero c) i) (taskSet (Fin.cast nCore_zero c) i) (outG vT v0 v1 d)),
    tasks_split vT v0 v1 d _ (vo d), tasks_split vT v0 v1 d _ (outG vT v0 v1 d)]
  iintro H; imodintro
  isplitl [H]; · iexact H
  iintro H; iexact H

/-- What the call takes and brings back, over both SparseCores. -/
theorem st0_eq (d : Dev nD) : (bigSep Finset.univ fun c : Fin ((K (F := F)).nCore 0) => (P vT v0 v1 vo).st 0 d c)
    = ptsAt vT v0 v1 d fullShare Finset.univ (vo d) :=
  (bigSep_cores (F := F) (fun c => ptsAt vT v0 v1 d (coreQ c) (coreSet c) (vo d))).trans (cores_split vT v0 v1 d (vo d)).symm
theorem dn0_eq (d : Dev nD) : (bigSep Finset.univ fun c : Fin ((K (F := F)).nCore 0) => (P vT v0 v1 vo).dn 0 d c)
    = ptsAt vT v0 v1 d fullShare Finset.univ (outG vT v0 v1 d) :=
  (bigSep_cores (F := F) (fun c => ptsAt vT v0 v1 d (coreQ c) (coreSet c) (outG vT v0 v1 d))).trans (cores_split vT v0 v1 d (outG vT v0 v1 d)).symm
end

end Cert.Proof.KI

end
-- ==== Proof.KI.Launch.lean ====
/-
  The launch: `@main`'s operations on the TensorCore and the call, and from them the whole program's run, its result at
  the value.
-/
module

public import proofs.«01_k».proof.Proof.KI.Split

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 eq_ix1 eq_ix2 eq_ix3)

open Idealize.ShloMosaic.StableHlo (held held_split held_sdiff_result wp_hlo_within)
variable {F : FTy → Type}

local notation "𝕄" => MT nD τ sig (HIx 1) (Elt F) ℕ UU ℕ
local notation "tV" => (Memref.whole Cert.KernelIdeal.main_v0_scv : Memref Cert.KernelIdeal.sig Kind.scVector Space.hbm Cert.KernelIdeal.S40000x128 EltTy.f32)
local notation "iV" => (Memref.whole Cert.KernelIdeal.main_v2_scv : Memref Cert.KernelIdeal.sig Kind.scVector Space.hbm Cert.KernelIdeal.S160000 EltTy.i32)
local notation "jV" => (Memref.whole Cert.KernelIdeal.main_v4_scv : Memref Cert.KernelIdeal.sig Kind.scVector Space.hbm Cert.KernelIdeal.S160000 EltTy.i32)
local notation "oV" => (Memref.whole Cert.KernelIdeal.main_v5_scv : Memref Cert.KernelIdeal.sig Kind.scVector Space.hbm Cert.KernelIdeal.S4x170000x128 EltTy.f32)
local notation "x0V" => (Memref.whole Cert.KernelIdeal.cc0_scratch0 : Memref Cert.KernelIdeal.sig Kind.scVector Space.vmem Cert.KernelIdeal.S128 EltTy.i32)
local notation "x1V" => (Memref.whole Cert.KernelIdeal.cc0_scratch1 : Memref Cert.KernelIdeal.sig Kind.scVector Space.vmem Cert.KernelIdeal.S128 EltTy.i32)
local notation "l0V" => (Memref.whole Cert.KernelIdeal.cc0_scratch2 : Memref Cert.KernelIdeal.sig Kind.scVector Space.vmem Cert.KernelIdeal.S128 EltTy.i32)
local notation "l1V" => (Memref.whole Cert.KernelIdeal.cc0_scratch3 : Memref Cert.KernelIdeal.sig Kind.scVector Space.vmem Cert.KernelIdeal.S128 EltTy.i32)
local notation "aV" => (Memref.whole Cert.KernelIdeal.cc0_scratch4 : Memref Cert.KernelIdeal.sig Kind.scVector Space.vmem Cert.KernelIdeal.S128x128 EltTy.f32)
local notation "bV" => (Memref.whole Cert.KernelIdeal.cc0_scratch5 : Memref Cert.KernelIdeal.sig Kind.scVector Space.vmem Cert.KernelIdeal.S128x128 EltTy.f32)
local notation "rV" => (Memref.whole Cert.KernelIdeal.cc0_scratch6 : Memref Cert.KernelIdeal.sig Kind.scVector Space.vmem Cert.KernelIdeal.S128x128 EltTy.f32)
local notation "cV" => (Memref.whole Cert.KernelIdeal.cc0_scratch7 : Memref Cert.KernelIdeal.sig Kind.scVector Space.vmem Cert.KernelIdeal.S80x128 EltTy.f32)

variable (m : (ℓ : Loc nD τ sig) → Buf (Elt F) ℓ) (ρ : Dev nD → PrngReg)

abbrev EH : Emb UH (MT nD τ sig (HIx 1) (Elt F) ℕ UU ℕ) := embL

/-! ## The TensorCore's arrays through the operations before the call -/

abbrev dr (r : Ref sig .tc) : DevRef τ sig := Proc.devRef .tc r

abbrev aLoc (d : Dev nD) : Loc nD τ sig := (SparseCore.T d).loc main_arg0
abbrev bLoc (d : Dev nD) : Loc nD τ sig := (SparseCore.T d).loc main_arg1

/-- The arrays. -/
abbrev S8 : Finset (DevRef τ sig) := {dr main_arg0, dr main_arg1, dr main_v0, dr main_v1, dr main_v2, dr main_v3, dr main_v4, dr main_v5}

/-- The arrays held whole, one by one. -/
theorem held_S8 (d : Dev nD) (W : Valuation τ sig (Elt F)) :
    (held (T d) S8 W : sProp 𝕄) = iprop((aLoc d ↦{fullShare} W (dr main_arg0)) ∗ (bLoc d ↦{fullShare} W (dr main_arg1))
      ∗ (tLoc d ↦{fullShare} W (dr main_v0)) ∗ ((SparseCore.T d).loc main_v1 ↦{fullShare} W (dr main_v1))
      ∗ (iLoc d ↦{fullShare} W (dr main_v2)) ∗ ((SparseCore.T d).loc main_v3 ↦{fullShare} W (dr main_v3))
      ∗ (jLoc d ↦{fullShare} W (dr main_v4)) ∗ oLoc d ↦{fullShare} W (dr main_v5)) := by
  unfold held S8
  iterate 7 rw [SparseCore.bigSep_insert' (by decide)]
  rw [bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1)
      ∗ (tLoc d ↦{fullShare} W main_v0) ∗ ((SparseCore.T d).loc main_v1 ↦{fullShare} W main_v1)
      ∗ (iLoc d ↦{fullShare} W main_v2) ∗ ((SparseCore.T d).loc main_v3 ↦{fullShare} W main_v3)
      ∗ (jLoc d ↦{fullShare} W main_v4) ∗ oLoc d ↦{fullShare} W main_v5) := by
  unfold unscopedBufs
  rw [show (Finset.univ.filter fun b : Ref sig .tc => ¬ b.isScoped) = {main_arg0, main_arg1, main_v0, main_v1, main_v2, main_v3, main_v4, main_v5} by decide]
  iterate 7 rw [SparseCore.bigSep_insert' (by decide)]
  rw [bigSep_singleton]

/-- The launch's contents. -/
def V0 (d : Dev nD) : Valuation τ sig (Elt F) := fun b => m (d, b)

theorem unscoped_held (d : Dev nD) : (unscopedBufs d (fun b => m ((SparseCore.T d).loc b)) : sProp 𝕄) = held (T d) S8 (V0 m d) := by
  rw [unscopedBufs_eq, held_S8]; rfl

variable [FloatOps F]

abbrev op1 : HloOp τ sig (Elt F) := StableHlo.reshape main_arg0 main_v0 (rfl : (.f32 : EltTy) = .f32) shapeCasts_S4x10000x128_S40000x128
abbrev op2 : HloOp τ sig (Elt F) := StableHlo.unary main_arg1 main_v1 ((extractStridedSlice S160000x1 ![0, 0] · slices_S160000x2_S160000x1_0_0) : (⟨S160000x2, .i32⟩ : BufTy).Contents (Elt F) → (⟨S160000x1, .i32⟩ : BufTy).Contents (Elt F))
abbrev op3 : HloOp τ sig (Elt F) := StableHlo.reshape main_v1 main_v2 (rfl : (.i32 : EltTy) = .i32) shapeCasts_S160000x1_S160000
abbrev op4 : HloOp τ sig (Elt F) := StableHlo.unary main_arg1 main_v3 ((extractStridedSlice S160000x1 ![0, 1] · slices_S160000x2_S160000x1_0_1) : (⟨S160000x2, .i32⟩ : BufTy).Contents (Elt F) → (⟨S160000x1, .i32⟩ : BufTy).Contents (Elt F))
abbrev op5 : HloOp τ sig (Elt F) := StableHlo.reshape main_v3 main_v4 (rfl : (.i32 : EltTy) = .i32) shapeCasts_S160000x1_S160000

/-- The contents when the call starts. -/
def V5 (d : Dev nD) : Valuation τ sig (Elt F) :=
  (op5 (F := F)).result ((op4 (F := F)).result ((op3 (F := F)).result ((op2 (F := F)).result ((op1 (F := F)).result (V0 m d)))))

/-- The table the call reads: the first argument's rows, the batches one after another. -/
def tbl (d : Dev nD) : Buf (Elt F) (tLoc d) := fun y => shapeCast S40000x128 (m (aLoc d) : S4x10000x128.Idx → F .f32) shapeCasts_S4x10000x128_S40000x128 y
/-- The index arrays the call reads: the second argument's two columns. -/
def idx0 (d : Dev nD) : Buf (Elt F) (iLoc d) := fun y =>
  shapeCast S160000 (extractStridedSlice S160000x1 ![0, 0] (m (bLoc d) : S160000x2.Idx → BitVec 32) slices_S160000x2_S160000x1_0_0) shapeCasts_S160000x1_S160000 y
def idx1 (d : Dev nD) : Buf (Elt F) (jLoc d) := fun y =>
  shapeCast S160000 (extractStridedSlice S160000x1 ![0, 1] (m (bLoc d) : S160000x2.Idx → BitVec 32) slices_S160000x2_S160000x1_0_1) shapeCasts_S160000x1_S160000 y

theorem V5_a (d : Dev nD) : V5 m d (dr main_arg0) = m (aLoc d) := by
  unfold V5
  rw [StableHlo.reshape_result_ne, StableHlo.unary_result_ne, StableHlo.reshape_result_ne,
    StableHlo.unary_result_ne, StableHlo.reshape_result_ne]
  · rfl
  all_goals decide
theorem V5_b (d : Dev nD) : V5 m d (dr main_arg1) = m (bLoc d) := by
  unfold V5
  rw [StableHlo.reshape_result_ne, StableHlo.unary_result_ne, StableHlo.reshape_result_ne,
    StableHlo.unary_result_ne, StableHlo.reshape_result_ne]
  · rfl
  all_goals decide
theorem V5_t (d : Dev nD) : V5 m d (dr main_v0) = tbl m d := by
  unfold V5
  rw [StableHlo.reshape_result_ne, StableHlo.unary_result_ne, StableHlo.reshape_result_ne,
    StableHlo.unary_result_ne, StableHlo.reshape_result]
  · rfl
  all_goals decide
theorem V5_i (d : Dev nD) : V5 m d (dr main_v2) = idx0 m d := by
  unfold V5
  rw [StableHlo.reshape_result_ne, StableHlo.unary_result_ne, StableHlo.reshape_result,
    StableHlo.unary_result, StableHlo.reshape_result_ne]
  · rfl
  all_goals decide
theorem V5_j (d : Dev nD) : V5 m d (dr main_v4) = idx1 m d := by
  unfold V5
  rw [StableHlo.reshape_result, StableHlo.unary_result, StableHlo.reshape_result_ne,
    StableHlo.unary_result_ne, StableHlo.reshape_result_ne]
  · rfl
  all_goals decide
theorem V5_o (d : Dev nD) : V5 m d (dr main_v5) = m (oLoc d) := by
  unfold V5
  rw [StableHlo.reshape_result_ne, StableHlo.unary_result_ne, StableHlo.reshape_result_ne,
    StableHlo.unary_result_ne, StableHlo.reshape_result_ne]
  · rfl
  all_goals decide

theorem op1_sub : (op1 (F := F)).bufs ⊆ S8 := show ({dr main_arg0, dr main_v0} : Finset (DevRef τ sig)) ⊆ S8 by decide
theorem op2_sub : (op2 (F := F)).bufs ⊆ S8 := show ({dr main_arg1, dr main_v1} : Finset (DevRef τ sig)) ⊆ S8 by decide
theorem op3_sub : (op3 (F := F)).bufs ⊆ S8 := show ({dr main_v1, dr main_v2} : Finset (DevRef τ sig)) ⊆ S8 by decide
theorem op4_sub : (op4 (F := F)).bufs ⊆ S8 := show ({dr main_arg1, dr main_v3} : Finset (DevRef τ sig)) ⊆ S8 by decide
theorem op5_sub : (op5 (F := F)).bufs ⊆ S8 := show ({dr main_v3, dr main_v4} : Finset (DevRef τ sig)) ⊆ S8 by decide

/-- The arrays when the call starts. -/
theorem held_call (d : Dev nD) :
    (held (T d) S8 ((op5 (F := F)).result ((op4 (F := F)).result ((op3 (F := F)).result ((op2 (F := F)).result ((op1 (F := F)).result (V0 m d)))))) : sProp 𝕄)
      = iprop((aLoc d ↦{fullShare} m (aLoc d)) ∗ (bLoc d ↦{fullShare} m (bLoc d))
        ∗ (tLoc d ↦{fullShare} tbl m d) ∗ ((SparseCore.T d).loc main_v1 ↦{fullShare} V5 m d (dr main_v1))
        ∗ (iLoc d ↦{fullShare} idx0 m d) ∗ ((SparseCore.T d).loc main_v3 ↦{fullShare} V5 m d (dr main_v3))
        ∗ (jLoc d ↦{fullShare} idx1 m d) ∗ oLoc d ↦{fullShare} m (oLoc d)) := by
  show (held (T d) S8 (V5 m d) : sProp 𝕄) = _
  rw [held_S8, V5_a, V5_b, V5_t, V5_i, V5_j, V5_o]

/-- The payloads at this launch. -/
abbrev PP : (K (F := F)).Pay (nD := nD) (Val := Elt F) (Name := ℕ) (U := UU) := P (tbl m) (idx0 m) (idx1 m) (fun d => m (oLoc d))

/-- What the kernel leaves in the result. -/
def out (d : Dev nD) : Buf (Elt F) (oLoc d) := outG (tbl m) (idx0 m) (idx1 m) d

/-! ## The launch element of the ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_nothing]
  iempintro

/-! ## @main on the TensorCore -/

/-- What `@main` leaves the claim: the arguments at their contents, the result at the value. -/
abbrev FIN (d : Dev nD) : sProp 𝕄 :=
  iprop((aLoc d ↦{fullShare} m (aLoc d)) ∗ (bLoc d ↦{fullShare} m (bLoc d)) ∗ oLoc d ↦{fullShare} out m d)

/-- `@main`: the reshape and the slices, then the call. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S8) op1_sub (V := V0 m d)) $$ [Hb Hheld]
  · isplitl [Hb] <;> iassumption
  iintro ⟨Hb, Hheld⟩
  rw [wp_ret]; imodintro
  iapply (wp_hlo_within 𝒱 (SparseCore.T d) none Set.univ (op := op2) (S := S8) op2_sub) $$ [Hb Hheld]
  · isplitl [Hb] <;> iassumption
  iintro ⟨Hb, Hheld⟩
  rw [wp_ret]; imodintro
  iapply (wp_hlo_within 𝒱 (SparseCore.T d) none Set.univ (op := op3) (S := S8) op3_sub) $$ [Hb Hheld]
  · isplitl [Hb] <;> iassumption
  iintro ⟨Hb, Hheld⟩
  rw [wp_ret]; imodintro
  iapply (wp_hlo_within 𝒱 (SparseCore.T d) none Set.univ (op := op4) (S := S8) op4_sub) $$ [Hb Hheld]
  · isplitl [Hb] <;> iassumption
  iintro ⟨Hb, Hheld⟩
  rw [wp_ret]; imodintro
  iapply (wp_hlo_within 𝒱 (SparseCore.T d) none Set.univ (op := op5) (S := S8) op5_sub) $$ [Hb Hheld]
  · isplitl [Hb] <;> iassumption
  iintro ⟨Hb, Hheld⟩
  rw [wp_ret]; imodintro
  ihave Hh := (Entails.of_eq (held_call m d)) $$ Hheld
  icases Hh with ⟨Ha, Hi, Ht, -, H0, -, H1, Ho⟩
  iapply ((K (F := F)).wp_run (D (F := F)) 𝒱 (EH := EH) (P := PP m) κ d 0) $$ [Hst Ha Hi Ht H0 H1 Ho Hb Hts]
  isplitr; · iexact Hctx
  isplitl [Hst]; · iexact Hst
  isplitl [Ht H0 H1 Ho]
  · rw [st0_eq]
    unfold ptsAt
    isplitl [Ht]; · iexact Ht
    isplitl [H0]; · iexact H0
    isplitl [H1]; · iexact H1
    iexact Ho
  iintro ⟨Hst, Hdn⟩
  ihave Hdn' := (Entails.of_eq (dn0_eq (tbl m) (idx0 m) (idx1 m) (fun d => m (oLoc d)) d)) $$ Hdn
  unfold ptsAt
  icases Hdn' with ⟨-, -, -, Ho⟩
  imodintro
  isplitl [Hst]; · iexact Hst
  isplitr [Hb Hts]
  · isplitl [Ha]; · iexact Ha
    isplitl [Hi]; · iexact Hi
    iexact Ho
  isplitl [Hb] <;> iassumption

/-- A final memory as the claims read it, on one device. -/
def fq (d : Dev nD) (s' : Phys nD τ sig (Elt F)) : Prop :=
  s'.mem.mem (aLoc d) = m (aLoc d) ∧ s'.mem.mem (bLoc d) = m (bLoc d) ∧ s'.mem.mem (oLoc d) = out m d

set_option maxRecDepth 16384 in
theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Every index in the second argument names a row of a batch. -/
def PreOK : Prop := ∀ (d : Dev nD) (j : S160000x2.Idx), ((m (bLoc d) : S160000x2.Idx → BitVec 32) j).toNat < 10000

omit [FloatOps F] in
theorem idx0_lt (h : PreOK m) (d : Dev nD) (e : S160000.Idx) : (idx0 m d e).toNat < 10000 := h d _
omit [FloatOps F] in
theorem idx1_lt (h : PreOK m) (d : Dev nD) (e : S160000.Idx) : (idx1 m d e).toNat < 10000 := h d _

def QC : PUnit × MemSt nD τ sig (Elt F) → Prop := fun r =>
  (∀ c : Dev nD, r.2.mem (aLoc c) = m (aLoc c) ∧ r.2.mem (bLoc c) = m (bLoc c) ∧ r.2.mem (oLoc c) = out m c) ∧ r.2.sem = fun _ => 0

/-- The program, from indices in range: the arguments unchanged, the result at the value, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tbl m) (idx0 m) (idx1 m) (fun d => m (oLoc d)) facts (idx0_lt m hpre) (idx1_lt m hpre))
    (fun q _ => match q with | 0 => SparseCore.Cfg.VecSplit.of_plain (vecSplit (tbl m) (idx0 m) (idx1 m) (fun d => m (oLoc d))))
    m ρ main (fun _ => iprop(emp)) (FIN m) (u₀ (F := F)) (sep_elim_left.trans (hu₀ m)) (hmain m ρ) (fq m) (hfin m) (QC m) (fun _ h hz => ⟨h, hz⟩)

end Cert.Proof.KI

end
-- ==== Proof.Ref.lean ====
/-
  The reference read at an index: where every index lies in the table, its result is a vertex's row below row 10000 and
  half the sum of an edge's two vertices' rows from there on.
-/
module

public import proofs.«01_k».proof.Proof.Gen.ReferenceIdeal.Run
public import Idealize.ShloMosaic.Lib.ValueIdx
public import Idealize.ShloMosaic.Lib.ReduceAll
public import Idealize.ShloMosaic.Lib.Pointwise.Reduce
public import Idealize.ShloMosaic.Lib.Pipeline.Value
public import Idealize.ShloMosaic.PureOps.Ideal.Laws

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-! ## The reference's term, by its parts -/

/-- An index read as the reference reads it: 10000 added below zero; with a unit axis behind. -/
def wrapped (i : IVec S160000x2 32) : IVec S160000x2x1 32 :=
  broadcastInDim S160000x2x1 ![0, 1] bcast_S160000x2_S160000x2x1_0_1
    (select (cmpi .slt i (broadcastInDim S160000x2 ![] bcast_S_S160000x2 (constantI S_ 32 0#32)))
      (addi i (broadcastInDim S160000x2 ![] bcast_S_S160000x2 (constantI S_ 32 10000#32))) i)

/-- Where an index names a row of the table. -/
def inside (i : IVec S160000x2 32) : IVec S160000x2 1 :=
  Host.reduce IntOp.andi
    (andi (cmpi .sge (wrapped i) (broadcastInDim S160000x2x1 ![] bcast_S_S160000x2x1 (constantI S_ 32 0#32)))
      (cmpi .sle (wrapped i) (broadcastInDim S160000x2x1 ![0, 1, 2] bcast_S1x1x1_S160000x2x1_0_1_2
        (broadcastInDim S1x1x1 ![2] bcast_S1_S1x1x1_2 (constantI S1 32 9999#32)))))
    (constantI S_ 1 1#1) reducesTo_S160000x2x1_S160000x2_d2 h_S_

/-- The two rows of every edge. -/
def taken (x : FVec F S4x10000x128 .f32) (i : IVec S160000x2 32) : FVec F S4x160000x2x128 .f32 :=
  select (broadcastInDim S4x160000x2x128 ![1, 2] bcast_S160000x2_S4x160000x2x128_1_2 (inside i))
    (Host.gather gather_S4x10000x128_S160000x2x1_S4x160000x2x128_03_1_n_n_1_2_41128 x (wrapped i))
    (broadcastInDim S4x160000x2x128 ![] bcast_S_S4x160000x2x128 (constant S_ .f32 0x7FC00000#32))

/-- Half the sum of the two. -/
def edges (x : FVec F S4x10000x128 .f32) (i : IVec S160000x2 32) : FVec F S4x160000x128 .f32 :=
  mulf (broadcastInDim S4x160000x128 ![] bcast_S_S4x160000x128 (constant S_ .f32 0x3F000000#32))
    (Host.reduceAdd (taken x i) (constant S_ .f32 0x00000000#32) reducesTo_S4x160000x2x128_S4x160000x128_d2 h_S_)

/-- The result. -/
def result (x : FVec F S4x10000x128 .f32) (i : IVec S160000x2 32) : FVec F S4x170000x128 .f32 :=
  concatenate S4x170000x128 1 [⟨S4x10000x128, x⟩, ⟨S4x160000x128, edges x i⟩] concatenates_S4x10000x128_S4x160000x128_S4x170000x128_d1

/-! ## Its parts at an index -/

/-- Every index lies in the table. -/
def Inside (i : IVec S160000x2 32) : Prop := ∀ j, (i j).toNat < 10000

theorem toInt_of_lt {v : BitVec 32} (h : v.toNat < 10000) : v.toInt = v.toNat := by
  rw [BitVec.toInt_eq_toNat_cond]; split <;> omega

theorem not_neg {v : BitVec 32} (h : v.toNat < 10000) : IntOp.cmpi .slt v 0#32 = 0#1 := by
  have e : v.slt 0#32 = false := by
    rw [BitVec.slt_eq_decide, toInt_of_lt h]; simp
  simp only [IntOp.cmpi, e]; rfl

theorem both_ones {v : BitVec 32} (h : v.toNat < 10000) :
    IntOp.andi (IntOp.cmpi .sge v 0#32) (IntOp.cmpi .sle v 9999#32) = 1#1 := by
  have e : (0#32).sle v = true := by rw [BitVec.sle_eq_decide, toInt_of_lt h]; simp
  have e' : v.sle 9999#32 = true := by
    rw [BitVec.sle_eq_decide, toInt_of_lt h]
    have : (9999#32 : BitVec 32).toInt = 9999 := by decide
    rw [this]; simp; omega
  simp only [IntOp.cmpi, e, e']; rfl

theorem unwrapped_apply {i : IVec S160000x2 32} (h : Inside i) (j : S160000x2.Idx) :
    select (cmpi .slt i (broadcastInDim S160000x2 ![] bcast_S_S160000x2 (constantI S_ 32 0#32)))
      (addi i (broadcastInDim S160000x2 ![] bcast_S_S160000x2 (constantI S_ 32 10000#32))) i j = i j := by
  have e : cmpi .slt i (broadcastInDim S160000x2 ![] bcast_S_S160000x2 (constantI S_ 32 0#32)) j = 0#1 := not_neg (h j)
  unfold select
  rw [e]; exact if_neg (by decide)

theorem wrapped_apply {i : IVec S160000x2 32} (h : Inside i) (e : Fin 160000) (k : Fin 2) (o : Fin 1) :
    wrapped i (ix3 e k o) = i (ix2 e k) := by
  unfold wrapped
  rw [broadcastInDim_apply ![0, 1] bcast_S160000x2_S160000x2x1_0_1 _ (ix3 e k o) (ix2 e k) (fun a => ?_)]
  · exact unwrapped_apply h _
  · match a with
    | ⟨0, _⟩ => exact (if_neg (show ¬ (160000 : ℕ) = 1 by decide)).symm
    | ⟨1, _⟩ => exact (if_neg (show ¬ (2 : ℕ) = 1 by decide)).symm

theorem inside_one {i : IVec S160000x2 32} (h : Inside i) (j : S160000x2.Idx) : inside i j = 1#1 := by
  refine Host.reduce_andi_one _ _ _ _ j rfl fun y => ?_
  obtain ⟨e, k, o, rfl⟩ : ∃ (e : Fin 160000) (k : Fin 2) (o : Fin 1), y = ix3 e k o := ⟨y 0, y 1, y 2, eq_ix3 y⟩
  show IntOp.andi (IntOp.cmpi .sge (wrapped i (ix3 e k o)) 0#32) (IntOp.cmpi .sle (wrapped i (ix3 e k o)) 9999#32) = 1#1
  rw [wrapped_apply h]; exact both_ones (h _)

/-- The two rows of an edge: the table's rows that the two indices name. -/
theorem gather_apply (x : FVec F S4x10000x128 .f32) (i : IVec S160000x2x1 32) (b : Fin 4) (e : Fin 160000) (k : Fin 2) (l : Fin 128)
    (h : (i (ix3 e k 0)).toNat < 10000) :
    Host.gather gather_S4x10000x128_S160000x2x1_S4x160000x2x128_03_1_n_n_1_2_41128 x i (ix4 b e k l)
      = x (ix3 b ⟨(i (ix3 e k 0)).toNat, h⟩ l) := by
  unfold Host.gather
  refine congrArg x (funext fun a => Fin.ext ?_)
  show GatherDims.start _ _ i a + GatherDims.batchCoord _ _ a + GatherDims.offCoord _ _ a = _
  rw [GatherDims.batchCoord_eq_zero _ _ _ (fun h => by cases h)]
  obtain rfl | rfl | rfl : a = 0 ∨ a = 1 ∨ a = 2 := by
    match a with
    | ⟨0, _⟩ => exact Or.inl rfl
    | ⟨1, _⟩ => exact Or.inr (Or.inl rfl)
    | ⟨2, _⟩ => exact Or.inr (Or.inr rfl)
  · unfold GatherDims.start GatherDims.offCoord
    rw [dif_neg (by decide), dif_pos (by decide)]
    simp only [Nat.zero_add]; rfl
  · unfold GatherDims.start GatherDims.offCoord
    rw [dif_pos (by decide), dif_neg (by decide)]
    simp only [Nat.add_zero]
    have hs : GatherDims.siIdx gather_S4x10000x128_S160000x2x1_S4x160000x2x128_03_1_n_n_1_2_41128 (ix4 b e k l)
        ⟨List.idxOf (1 : Fin 3) [1], by decide⟩ = ix3 e k 0 := by
      funext c; refine Fin.ext ?_
      match c with
      | ⟨0, _⟩ => rfl
      | ⟨1, _⟩ => rfl
      | ⟨2, _⟩ => rfl
    refine (congrArg (fun z => min (i z).toInt.toNat 9999) hs).trans ?_
    show min (i (ix3 e k 0)).toInt.toNat 9999 = (i (ix3 e k 0)).toNat
    rw [toInt_of_lt h]; omega
  · unfold GatherDims.start GatherDims.offCoord
    rw [dif_neg (by decide), dif_pos (by decide)]
    simp only [Nat.zero_add]; rfl

theorem taken_apply (x : FVec F S4x10000x128 .f32) {i : IVec S160000x2 32} (h : Inside i) (b : Fin 4) (e : Fin 160000) (k : Fin 2) (l : Fin 128) :
    taken x i (ix4 b e k l) = x (ix3 b ⟨(i (ix2 e k)).toNat, h _⟩ l) := by
  have hm : broadcastInDim S4x160000x2x128 ![1, 2] bcast_S160000x2_S4x160000x2x128_1_2 (inside i) (ix4 b e k l) = 1#1 := by
    unfold broadcastInDim; exact inside_one h _
  unfold taken select
  refine (if_pos hm).trans ?_
  rw [gather_apply x (wrapped i) b e k l (by rw [wrapped_apply h]; exact h _)]
  refine congrArg x ?_
  rw [show (⟨(wrapped i (ix3 e k 0)).toNat, by rw [wrapped_apply h]; exact h _⟩ : Fin 10000) = ⟨(i (ix2 e k)).toNat, h _⟩ from
    Fin.ext (congrArg BitVec.toNat (wrapped_apply h e k 0))]

/-- Half the sum of the two rows, over the extended reals. -/
theorem edges_apply (x : FVec Ideal S4x10000x128 .f32) {i : IVec S160000x2 32} (h : Inside i) (b : Fin 4) (e : Fin 160000) (l : Fin 128) :
    edges x i (ix3 b e l) = FloatOps.mulf (FloatOps.addf (x (ix3 b ⟨(i (ix2 e 0)).toNat, h _⟩ l)) (x (ix3 b ⟨(i (ix2 e 1)).toNat, h _⟩ l)))
      (FloatOps.ofBits .f32 0x3F000000#32) := by
  unfold edges
  show FloatOps.mulf (FloatOps.ofBits .f32 0x3F000000#32 : Ideal .f32) (Host.reduceAdd (taken x i) (constant S_ .f32 0x00000000#32)
    reducesTo_S4x160000x2x128_S4x160000x128_d2 h_S_ (ix3 b e l)) = _
  have hs : Host.reduceAdd (taken x i) (constant S_ .f32 0x00000000#32) reducesTo_S4x160000x2x128_S4x160000x128_d2 h_S_ (ix3 b e l)
      = (FloatOps.addf (x (ix3 b ⟨(i (ix2 e 0)).toNat, h _⟩ l)) (x (ix3 b ⟨(i (ix2 e 1)).toNat, h _⟩ l)) : Ideal .f32) := by
    rw [Host.reduceAdd_apply, Ideal.hostReduceAdd_def, Ideal.hostReduceAdd_r4_a2, Fin.sum_univ_two]
    rw [show constant (F := Ideal) S_ .f32 0x00000000#32 (Shape.Idx.first h_S_) = (0 : EReal) from Ideal.ofBits_zero_f32, zero_add]
    exact congrArg₂ (fun u v : EReal => u + v) (taken_apply x h b e 0 l) (taken_apply x h b e 1 l)
  rw [hs]
  exact mul_comm (G := EReal) _ _

theorem result_vertex (x : FVec F S4x10000x128 .f32) (i : IVec S160000x2 32) (y : S4x170000x128.Idx) (hy : (y 1).val < 10000) :
    result x i y = x (ix3 (n0 := 4) (n1 := 10000) (n2 := 128) (y 0) ⟨(y 1).val, hy⟩ (y 2)) := by
  refine concatenate_pair_apply_left (s₁ := S4x10000x128) (s₂ := S4x160000x128) 1 x (edges x i) _ y rfl (ix3 (n0 := 4) (n1 := 10000) (n2 := 128) (y 0) ⟨(y 1).val, hy⟩ (y 2)) fun a => ?_
  match a with
  | ⟨0, _⟩ => rfl
  | ⟨1, _⟩ => rfl
  | ⟨2, _⟩ => rfl

theorem result_edge (x : FVec F S4x10000x128 .f32) (i : IVec S160000x2 32) (y : S4x170000x128.Idx) (e : Fin 160000)
    (hy : e.val + 10000 = (y 1).val) : result x i y = edges x i (ix3 (n0 := 4) (n1 := 160000) (n2 := 128) (y 0) e (y 2)) := by
  refine concatenate_pair_apply_right (s₁ := S4x10000x128) (s₂ := S4x160000x128) 1 x (edges x i) _ y rfl rfl (ix3 (n0 := 4) (n1 := 160000) (n2 := 128) (y 0) e (y 2)) (fun a ha => ?_) hy
  match a with
  | ⟨0, _⟩ => rfl
  | ⟨1, _⟩ => exact absurd rfl ha
  | ⟨2, _⟩ => rfl

/-- The reference's run: its result at that term, its arguments unchanged, and every counter at zero, for it has none. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v4) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨h, sem_eq_zero_of_no_sems (by decide) r.2⟩) (Cert.ReferenceIdeal.Value.run m ρ)

end Cert.Proof.Ref

end
-- ==== Proof.Meet.lean ====
/-
  Where kernel and reference meet: the array the kernel's run leaves is the reference's term of the same arguments, over the
  extended reals, wherever every index lies in the table; and the precondition says just that of the indices.
-/
module

public import proofs.«01_k».proof.Proof.KI.Launch
public import proofs.«01_k».proof.Proof.Ref
public import proofs.«01_k».proof.Proof.Gen.Pre_in_range
public import Idealize.ShloMosaic.Lib.Pointwise.IndexBridge

@[expose] public section

noncomputable section

namespace Cert.Proof.Meet

open Cert.KernelIdeal Cert.KernelIdeal.Gen
open Idealize.ShloMosaic Idealize.ShloMosaic.TcCoe Idealize.SL.Sem
open Cert.Proof.KI (aLoc bLoc oLoc tbl idx0 idx1 out tRow edge G avg PreOK)

/-! ## The precondition -/

/-- A word that is at least 0 and below 10000, read signed, is below 10000 read unsigned. -/
theorem lt_of_tests {v : BitVec 32} (h : IntOp.andi (IntOp.cmpi .sge v 0#32) (IntOp.cmpi .slt v 10000#32) = 1#1) : v.toNat < 10000 := by
  have hb : ∀ p q : Bool, IntOp.andi (BitVec.ofBool p) (BitVec.ofBool q) = 1#1 → p = true ∧ q = true := by decide
  obtain ⟨h0, h1⟩ := hb _ _ h
  have h0' : (0#32).sle v = true := h0
  have h1' : v.slt 10000#32 = true := h1
  rw [BitVec.sle_eq_decide, decide_eq_true_eq] at h0'
  rw [BitVec.slt_eq_decide, decide_eq_true_eq] at h1'
  rw [show (0#32 : BitVec 32).toInt = 0 from rfl] at h0'
  rw [show (10000#32 : BitVec 32).toInt = 10000 from by decide] at h1'
  rw [BitVec.toInt_eq_toNat_cond] at h0' h1'
  have := v.isLt
  split at h0' <;> rename_i hc
  · rw [if_pos hc] at h1'; omega
  · omega

/-- The precondition's function all ones says that every index lies in the table. -/
theorem inside_of_pre {F : FTy → Type} [FloatOps F] (x : FVec F S4x10000x128 .f32) (i : IVec S160000x2 32)
    (h : Cert.Pre_in_range.fn (F := F) x i = fun _ => 1#1) : Cert.Proof.Ref.Inside i := fun j => lt_of_tests (congrFun h j)

/-! ## The kernel's value is the reference's -/

variable (m : (ℓ : Loc nD τ sig) → Buf (Elt Ideal) ℓ)

/-- The reshaped table at a row. -/
theorem tbl_apply (d : Dev nD) (b : Fin 4) (n : Fin 10000) (l : Fin 128) :
    (tbl m d : S40000x128.Idx → EReal) (ValueIdx.ix2 (tRow b.val n.val) l) = (m (aLoc d) : S4x10000x128.Idx → EReal) (ix3 b n l) := by
  refine shapeCast_apply (s := S4x10000x128) (t := S40000x128) (m (aLoc d)) shapeCasts_S4x10000x128_S40000x128
    (ValueIdx.ix2 (tRow b.val n.val) l) (ix3 b n l) ?_
  rw [Shape.rowMajor_val_three, Shape.rowMajor_val_two]
  show (b.val * 10000 + n.val) * 128 + l.val = (b.val * 10000 + n.val) % 40000 * 128 + l.val
  rw [Nat.mod_eq_of_lt (by omega)]

/-- A column of the indices at an edge. -/
theorem column_apply (i : S160000x2.Idx → BitVec 32) (k : Fin 2) (h : S160000x2.Slices ![0, k.val] S160000x1) (e : Fin 160000) :
    shapeCast S160000 (extractStridedSlice S160000x1 ![0, k.val] i h) shapeCasts_S160000x1_S160000 (ValueIdx.ix1 e) = i (ix2 e k) := by
  refine (shapeCast_apply _ _ _ (ix2 e (0 : Fin 1)) ?_).trans (extractStridedSlice_apply _ _ _ _ _ fun a => ?_)
  · rw [Shape.rowMajor_val_one, Shape.rowMajor_val_two]
    show e.val * 1 + 0 = e.val
    omega
  · match a with
    | ⟨0, _⟩ => exact (Nat.zero_add _).symm
    | ⟨1, _⟩ => rfl

/-- The kernel's value is the reference's term, its flat table and its two index arrays being the arguments' reshapes. -/
theorem G_eq (T : S40000x128.Idx → EReal) (f0 f1 : S160000.Idx → BitVec 32) (x : S4x10000x128.Idx → EReal) (i : S160000x2.Idx → BitVec 32)
    (hT : ∀ (b : Fin 4) (n : Fin 10000) (l : Fin 128), T (ValueIdx.ix2 (tRow b.val n.val) l) = x (ix3 b n l))
    (h0 : ∀ e : Fin 160000, f0 (ValueIdx.ix1 e) = i (ix2 e 0)) (h1 : ∀ e : Fin 160000, f1 (ValueIdx.ix1 e) = i (ix2 e 1))
    (hi : Cert.Proof.Ref.Inside i) (y : S4x170000x128.Idx) : G (F := Ideal) T f0 f1 y = Cert.Proof.Ref.result (F := Ideal) x i y := by
  obtain ⟨b, r, l, rfl⟩ : ∃ (b : Fin 4) (r : Fin 170000) (l : Fin 128), y = ix3 b r l := ⟨y 0, y 1, y 2, eq_ix3 y⟩
  unfold G
  by_cases hy : r.val < 10000
  · rw [Cert.Proof.Ref.result_vertex (F := Ideal) x i (ix3 b r l) hy]
    exact (if_pos hy).trans (hT b ⟨r.val, hy⟩ l)
  · have hr := r.isLt
    have he : edge (ix3 b r l) = ValueIdx.ix1 ⟨r.val - 10000, by omega⟩ := by
      unfold edge
      exact congrArg ValueIdx.ix1 (Fin.ext (Nat.mod_eq_of_lt (show r.val - 10000 < 160000 by omega)))
    refine (if_neg hy).trans ?_
    refine Eq.trans ?_ ((Cert.Proof.Ref.result_edge (F := Ideal) x i (ix3 b r l) ⟨r.val - 10000, by omega⟩
      (Nat.sub_add_cancel (show 10000 ≤ r.val by omega))).trans (Cert.Proof.Ref.edges_apply x hi b _ l)).symm
    rw [he, h0, h1]
    exact congrArg₂ (avg (F := Ideal)) (hT b ⟨_, hi _⟩ l) (hT b ⟨_, hi _⟩ l)

/-- The kernel's result is the reference's term. -/
theorem out_eq (d : Dev nD) (h : PreOK m) :
    out m d = Cert.Proof.Ref.result (F := Ideal) (m (aLoc d)) (m (bLoc d)) :=
  funext (G_eq (tbl m d) (idx0 m d) (idx1 m d) (m (aLoc d)) (m (bLoc d)) (tbl_apply m d)
    (column_apply (m (bLoc d)) 0 _) (column_apply (m (bLoc d)) 1 _) (h d))

end Cert.Proof.Meet

end
-- ==== Proof.lean ====
/-
  The certificate of the mesh-unpooling kernel: it runs and leaves its arguments and every semaphore counter as they were, as
  printed and over the extended reals (Proof/KB and Proof/KI: one proof at either program); so does the reference (Proof/Ref);
  and over the extended reals the kernel's one result, all of it, is the reference's (Proof/Meet).
-/
module

public import proofs.«01_k».proof.Defs
public import proofs.«01_k».proof.Proof.KI.Launch
public import proofs.«01_k».proof.Proof.KB.Launch
public import proofs.«01_k».proof.Proof.Ref
public import proofs.«01_k».proof.Proof.Meet
public import proofs.«01_k».proof.Proof.Gen.Pre_in_range

@[expose] public section

noncomputable section

namespace Cert.Proof

open Idealize.ShloMosaic Idealize.SL.Sem

/-- The kernel as printed: it runs, its arguments end unchanged, every counter at zero. -/
theorem frame_p : Cert.quiescent_Kernel := fun m ρ hp =>
  (θ_run (Cert.Kernel.defs (F := Bits)) _ _).mono (fun _ h => ⟨fun c => ⟨(h.1 c).1, (h.1 c).2.1⟩, h.2⟩)
    (KB.run_main (F := Bits) m ρ fun d => Meet.inside_of_pre _ _ (hp d))

/-- The kernel over the extended reals: the same. -/
theorem frame_pi : Cert.quiescent_KernelIdeal := fun m ρ hp =>
  (θ_run (Cert.KernelIdeal.defs (F := Ideal)) _ _).mono (fun _ h => ⟨fun c => ⟨(h.1 c).1, (h.1 c).2.1⟩, h.2⟩)
    (KI.run_main (F := Ideal) m ρ fun d => Meet.inside_of_pre _ _ (hp d))

/-- The reference over the extended reals: the same, whatever its arguments. -/
theorem frame_ri : Cert.quiescent_ReferenceIdeal := fun m ρ _ =>
  (θ_run (Cert.ReferenceIdeal.defs (F := Ideal)) _ _).mono (fun _ h => ⟨fun c => (h.1 c).2, h.2⟩) (Ref.run (F := Ideal) m ρ)

/-- And so where the precondition holds. -/
theorem frame_ri_pre : Cert.quiescent_ReferenceIdeal_pre_in_range := fun m ρ _ => frame_ri m ρ trivial

/-- Over the extended reals the kernel's result is the reference's: each run ends with the reference's term of the arguments. -/
theorem algebraic : Cert.algebraic_KernelIdeal_ReferenceIdeal := by
  intro m ρ m' ρ' hp hagree
  have hpre : KI.PreOK m := fun d => Meet.inside_of_pre _ _ (hp d)
  refine ⟨fun c => KI.out m c, (θ_run (Cert.KernelIdeal.defs (F := Ideal)) _ _).mono (fun _ h c => ⟨(h.1 c).2.2, (h.1 c).1, (h.1 c).2.1⟩)
      (KI.run_main (F := Ideal) m ρ hpre),
    (θ_run (Cert.ReferenceIdeal.defs (F := Ideal)) _ _).mono (fun _ h c => ⟨(h.1 c).1.trans ?_, (h.1 c).2⟩) (Ref.run (F := Ideal) m' ρ')⟩
  rw [(hagree c).1, (hagree c).2]
  exact (Meet.out_eq m c hpre).symm

theorem claim : Cert.Claim := ⟨Cert.Kernel.Gen.facts, Cert.KernelIdeal.Gen.facts, Cert.ReferenceIdeal.Gen.facts, Cert.Pre_in_range.Gen.facts,
  frame_p, frame_pi, frame_ri, frame_ri_pre, trivial, algebraic⟩

end Cert.Proof

end
